-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_NsaProj (m : (ℓ : Loc Cert.NsaProj.nD Cert.NsaProj.τ Cert.NsaProj.sig) → Buf (Elt Bits) ℓ) : Prop :=
  True

def Pre_NsaProjIdeal (m : (ℓ : Loc Cert.NsaProjIdeal.nD Cert.NsaProjIdeal.τ Cert.NsaProjIdeal.sig) → Buf (Elt Ideal) ℓ) : Prop :=
  True

def Pre_NsaProjReferenceIdeal (m : (ℓ : Loc Cert.NsaProjReferenceIdeal.nD Cert.NsaProjReferenceIdeal.τ Cert.NsaProjReferenceIdeal.sig) → Buf (Elt Ideal) ℓ) : Prop :=
  True

def Pre_NsaRows (m : (ℓ : Loc Cert.NsaRows.nD Cert.NsaRows.τ Cert.NsaRows.sig) → Buf (Elt Bits) ℓ) : Prop :=
  True

def Pre_NsaRowsIdeal (m : (ℓ : Loc Cert.NsaRowsIdeal.nD Cert.NsaRowsIdeal.τ Cert.NsaRowsIdeal.sig) → Buf (Elt Ideal) ℓ) : Prop :=
  True

def Pre_NsaRowsReferenceIdeal (m : (ℓ : Loc Cert.NsaRowsReferenceIdeal.nD Cert.NsaRowsReferenceIdeal.τ Cert.NsaRowsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1))
      ∧ r.2.sem = fun _ => 0)

def quiescent_NsaProj [hNsaProj : Cert.NsaProj.Facts] : Prop :=
  ∀ (m : (ℓ : Loc Cert.NsaProj.nD Cert.NsaProj.τ Cert.NsaProj.sig) → Buf (Elt Bits) ℓ) (g : Dev Cert.NsaProj.nD → PrngReg), Pre_NsaProj m →
    θ_run (Cert.NsaProj.defs (F := Bits)) (onTc (τ := Cert.NsaProj.τ) (Cert.NsaProj.main (F := Bits))) ⟨m, fun _ => 0, g⟩ (fun r => (∀ c : Dev Cert.NsaProj.nD,
      r.2.mem ((c.tc : Thread Cert.NsaProj.nD Cert.NsaProj.τ).loc Cert.NsaProj.main_arg0) = m ((c.tc : Thread Cert.NsaProj.nD Cert.NsaProj.τ).loc Cert.NsaProj.main_arg0)
      ∧ r.2.mem ((c.tc : Thread Cert.NsaProj.nD Cert.NsaProj.τ).loc Cert.NsaProj.main_arg1) = m ((c.tc : Thread Cert.NsaProj.nD Cert.NsaProj.τ).loc Cert.NsaProj.main_arg1))
      ∧ r.2.sem = fun _ => 0)

def quiescent_NsaProjIdeal [hNsaProjIdeal : Cert.NsaProjIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg), Pre_NsaProjIdeal m →
    θ_run (Cert.NsaProjIdeal.defs (F := Ideal)) (onTc (τ := Cert.NsaProjIdeal.τ) (Cert.NsaProjIdeal.main (F := Ideal))) ⟨m, fun _ => 0, g⟩ (fun r => (∀ c : Dev Cert.NsaProjIdeal.nD,
      r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
      ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1))
      ∧ r.2.sem = fun _ => 0)

def quiescent_NsaProjReferenceIdeal [hNsaProjReferenceIdeal : Cert.NsaProjReferenceIdeal.Facts] : Prop :=
  ∀ (m : (ℓ : Loc Cert.NsaProjReferenceIdeal.nD Cert.NsaProjReferenceIdeal.τ Cert.NsaProjReferenceIdeal.sig) → Buf (Elt Ideal) ℓ) (g : Dev Cert.NsaProjReferenceIdeal.nD → PrngReg), Pre_NsaProjReferenceIdeal m →
    θ_run (Cert.NsaProjReferenceIdeal.defs (F := Ideal)) (onTc (τ := Cert.NsaProjReferenceIdeal.τ) (Cert.NsaProjReferenceIdeal.main (F := Ideal))) ⟨m, fun _ => 0, g⟩ (fun r => (∀ c : Dev Cert.NsaProjReferenceIdeal.nD,
      r.2.mem ((c.tc : Thread Cert.NsaProjReferenceIdeal.nD Cert.NsaProjReferenceIdeal.τ).loc Cert.NsaProjReferenceIdeal.main_arg0) = m ((c.tc : Thread Cert.NsaProjReferenceIdeal.nD Cert.NsaProjReferenceIdeal.τ).loc Cert.NsaProjReferenceIdeal.main_arg0)
      ∧ r.2.mem ((c.tc : Thread Cert.NsaProjReferenceIdeal.nD Cert.NsaProjReferenceIdeal.τ).loc Cert.NsaProjReferenceIdeal.main_arg1) = m ((c.tc : Thread Cert.NsaProjReferenceIdeal.nD Cert.NsaProjReferenceIdeal.τ).loc Cert.NsaProjReferenceIdeal.main_arg1))
      ∧ r.2.sem = fun _ => 0)

def quiescent_NsaRows [hNsaRows : Cert.NsaRows.Facts] : Prop :=
  ∀ (m : (ℓ : Loc Cert.NsaRows.nD Cert.NsaRows.τ Cert.NsaRows.sig) → Buf (Elt Bits) ℓ) (g : Dev Cert.NsaRows.nD → PrngReg), Pre_NsaRows m →
    θ_run (Cert.NsaRows.defs (F := Bits)) (onTc (τ := Cert.NsaRows.τ) (Cert.NsaRows.main (F := Bits))) ⟨m, fun _ => 0, g⟩ (fun r => (∀ c : Dev Cert.NsaRows.nD,
      r.2.mem ((c.tc : Thread Cert.NsaRows.nD Cert.NsaRows.τ).loc Cert.NsaRows.main_arg0) = m ((c.tc : Thread Cert.NsaRows.nD Cert.NsaRows.τ).loc Cert.NsaRows.main_arg0)
      ∧ r.2.mem ((c.tc : Thread Cert.NsaRows.nD Cert.NsaRows.τ).loc Cert.NsaRows.main_arg1) = m ((c.tc : Thread Cert.NsaRows.nD Cert.NsaRows.τ).loc Cert.NsaRows.main_arg1))
      ∧ r.2.sem = fun _ => 0)

def quiescent_NsaRowsIdeal [hNsaRowsIdeal : Cert.NsaRowsIdeal.Facts] : Prop :=
  ∀ (m : (ℓ : Loc Cert.NsaRowsIdeal.nD Cert.NsaRowsIdeal.τ Cert.NsaRowsIdeal.sig) → Buf (Elt Ideal) ℓ) (g : Dev Cert.NsaRowsIdeal.nD → PrngReg), Pre_NsaRowsIdeal m →
    θ_run (Cert.NsaRowsIdeal.defs (F := Ideal)) (onTc (τ := Cert.NsaRowsIdeal.τ) (Cert.NsaRowsIdeal.main (F := Ideal))) ⟨m, fun _ => 0, g⟩ (fun r => (∀ c : Dev Cert.NsaRowsIdeal.nD,
      r.2.mem ((c.tc : Thread Cert.NsaRowsIdeal.nD Cert.NsaRowsIdeal.τ).loc Cert.NsaRowsIdeal.main_arg0) = m ((c.tc : Thread Cert.NsaRowsIdeal.nD Cert.NsaRowsIdeal.τ).loc Cert.NsaRowsIdeal.main_arg0)
      ∧ r.2.mem ((c.tc : Thread Cert.NsaRowsIdeal.nD Cert.NsaRowsIdeal.τ).loc Cert.NsaRowsIdeal.main_arg1) = m ((c.tc : Thread Cert.NsaRowsIdeal.nD Cert.NsaRowsIdeal.τ).loc Cert.NsaRowsIdeal.main_arg1))
      ∧ r.2.sem = fun _ => 0)

def quiescent_NsaRowsReferenceIdeal [hNsaRowsReferenceIdeal : Cert.NsaRowsReferenceIdeal.Facts] : Prop :=
  ∀ (m : (ℓ : Loc Cert.NsaRowsReferenceIdeal.nD Cert.NsaRowsReferenceIdeal.τ Cert.NsaRowsReferenceIdeal.sig) → Buf (Elt Ideal) ℓ) (g : Dev Cert.NsaRowsReferenceIdeal.nD → PrngReg), Pre_NsaRowsReferenceIdeal m →
    θ_run (Cert.NsaRowsReferenceIdeal.defs (F := Ideal)) (onTc (τ := Cert.NsaRowsReferenceIdeal.τ) (Cert.NsaRowsReferenceIdeal.main (F := Ideal))) ⟨m, fun _ => 0, g⟩ (fun r => (∀ c : Dev Cert.NsaRowsReferenceIdeal.nD,
      r.2.mem ((c.tc : Thread Cert.NsaRowsReferenceIdeal.nD Cert.NsaRowsReferenceIdeal.τ).loc Cert.NsaRowsReferenceIdeal.main_arg0) = m ((c.tc : Thread Cert.NsaRowsReferenceIdeal.nD Cert.NsaRowsReferenceIdeal.τ).loc Cert.NsaRowsReferenceIdeal.main_arg0)
      ∧ r.2.mem ((c.tc : Thread Cert.NsaRowsReferenceIdeal.nD Cert.NsaRowsReferenceIdeal.τ).loc Cert.NsaRowsReferenceIdeal.main_arg1) = m ((c.tc : Thread Cert.NsaRowsReferenceIdeal.nD Cert.NsaRowsReferenceIdeal.τ).loc Cert.NsaRowsReferenceIdeal.main_arg1))
      ∧ r.2.sem = fun _ => 0)

def preserves_Kernel_KernelIdeal : Prop :=
  IdealRules.named_const.Statement Cert.KernelIdeal.κ "neg_log2_e" .f32 0xBFB8AA3B#32 ((-((Real.log 2)⁻¹) : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v7)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v7) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v55) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v7_0)) (v1 : (c : Dev Cert.ProjIdeal.nD) → Buf (Elt Ideal) ((c.tc : Thread Cert.ProjIdeal.nD Cert.ProjIdeal.τ).loc Cert.ProjIdeal.main_v7_1)) (v2 : (c : Dev Cert.ProjIdeal.nD) → Buf (Elt Ideal) ((c.tc : Thread Cert.ProjIdeal.nD Cert.ProjIdeal.τ).loc Cert.ProjIdeal.main_v7_2)) (v3 : (c : Dev Cert.ProjIdeal.nD) → Buf (Elt Ideal) ((c.tc : Thread Cert.ProjIdeal.nD Cert.ProjIdeal.τ).loc Cert.ProjIdeal.main_v7_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v7_0) = v0 c
          ∧ r.2.mem ((c.tc : Thread Cert.ProjIdeal.nD Cert.ProjIdeal.τ).loc Cert.ProjIdeal.main_v7_1) = v1 c
          ∧ r.2.mem ((c.tc : Thread Cert.ProjIdeal.nD Cert.ProjIdeal.τ).loc Cert.ProjIdeal.main_v7_2) = v2 c
          ∧ r.2.mem ((c.tc : Thread Cert.ProjIdeal.nD Cert.ProjIdeal.τ).loc Cert.ProjIdeal.main_v7_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v10) = v0 c
          ∧ r.2.mem ((c.tc : Thread Cert.ProjReferenceIdeal.nD Cert.ProjReferenceIdeal.τ).loc Cert.ProjReferenceIdeal.main_v12) = v1 c
          ∧ r.2.mem ((c.tc : Thread Cert.ProjReferenceIdeal.nD Cert.ProjReferenceIdeal.τ).loc Cert.ProjReferenceIdeal.main_v13) = v2 c
          ∧ r.2.mem ((c.tc : Thread Cert.ProjReferenceIdeal.nD Cert.ProjReferenceIdeal.τ).loc Cert.ProjReferenceIdeal.main_v14) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v5_0)) (v1 : (c : Dev Cert.RowsIdeal.nD) → Buf (Elt Ideal) ((c.tc : Thread Cert.RowsIdeal.nD Cert.RowsIdeal.τ).loc Cert.RowsIdeal.main_v5_1)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v5_0) = v0 c
          ∧ r.2.mem ((c.tc : Thread Cert.RowsIdeal.nD Cert.RowsIdeal.τ).loc Cert.RowsIdeal.main_v5_1) = v1 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v9) = v0 c
          ∧ r.2.mem ((c.tc : Thread Cert.RowsReferenceIdeal.nD Cert.RowsReferenceIdeal.τ).loc Cert.RowsReferenceIdeal.main_v10) = v1 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1))

def preserves_NsaProj_NsaProjIdeal : Prop :=
  True

def algebraic_NsaProjIdeal_NsaProjReferenceIdeal [hNsaProjIdeal : Cert.NsaProjIdeal.Facts] [hNsaProjReferenceIdeal : Cert.NsaProjReferenceIdeal.Facts] : Prop :=
  ∀ (m : (ℓ : Loc Cert.NsaProjIdeal.nD Cert.NsaProjIdeal.τ Cert.NsaProjIdeal.sig) → Buf (Elt Ideal) ℓ) (g : Dev Cert.NsaProjIdeal.nD → PrngReg)
    (m' : (ℓ : Loc Cert.NsaProjReferenceIdeal.nD Cert.NsaProjReferenceIdeal.τ Cert.NsaProjReferenceIdeal.sig) → Buf (Elt Ideal) ℓ) (g' : Dev Cert.NsaProjReferenceIdeal.nD → PrngReg), Pre_NsaProjIdeal m →
    (∀ c : Dev Cert.NsaProjIdeal.nD,
      m' ((c.tc : Thread Cert.NsaProjReferenceIdeal.nD Cert.NsaProjReferenceIdeal.τ).loc Cert.NsaProjReferenceIdeal.main_arg0) = m ((c.tc : Thread Cert.NsaProjIdeal.nD Cert.NsaProjIdeal.τ).loc Cert.NsaProjIdeal.main_arg0)
      ∧ m' ((c.tc : Thread Cert.NsaProjReferenceIdeal.nD Cert.NsaProjReferenceIdeal.τ).loc Cert.NsaProjReferenceIdeal.main_arg1) = m ((c.tc : Thread Cert.NsaProjIdeal.nD Cert.NsaProjIdeal.τ).loc Cert.NsaProjIdeal.main_arg1)) →
    ∃ (v0 : (c : Dev Cert.NsaProjIdeal.nD) → Buf (Elt Ideal) ((c.tc : Thread Cert.NsaProjIdeal.nD Cert.NsaProjIdeal.τ).loc Cert.NsaProjIdeal.main_v14_0)) (v1 : (c : Dev Cert.NsaProjIdeal.nD) → Buf (Elt Ideal) ((c.tc : Thread Cert.NsaProjIdeal.nD Cert.NsaProjIdeal.τ).loc Cert.NsaProjIdeal.main_v14_1)) (v2 : (c : Dev Cert.NsaProjIdeal.nD) → Buf (Elt Ideal) ((c.tc : Thread Cert.NsaProjIdeal.nD Cert.NsaProjIdeal.τ).loc Cert.NsaProjIdeal.main_v14_2)) (v3 : (c : Dev Cert.NsaProjIdeal.nD) → Buf (Elt Ideal) ((c.tc : Thread Cert.NsaProjIdeal.nD Cert.NsaProjIdeal.τ).loc Cert.NsaProjIdeal.main_v14_3)) (v4 : (c : Dev Cert.NsaProjIdeal.nD) → Buf (Elt Ideal) ((c.tc : Thread Cert.NsaProjIdeal.nD Cert.NsaProjIdeal.τ).loc Cert.NsaProjIdeal.main_v14_4)) (v5 : (c : Dev Cert.NsaProjIdeal.nD) → Buf (Elt Ideal) ((c.tc : Thread Cert.NsaProjIdeal.nD Cert.NsaProjIdeal.τ).loc Cert.NsaProjIdeal.main_v14_5)) (v6 : (c : Dev Cert.NsaProjIdeal.nD) → Buf (Elt Ideal) ((c.tc : Thread Cert.NsaProjIdeal.nD Cert.NsaProjIdeal.τ).loc Cert.NsaProjIdeal.main_v14_6)) (v7 : (c : Dev Cert.NsaProjIdeal.nD) → Buf (Elt Ideal) ((c.tc : Thread Cert.NsaProjIdeal.nD Cert.NsaProjIdeal.τ).loc Cert.NsaProjIdeal.main_v14_7)),
      θ_run (Cert.NsaProjIdeal.defs (F := Ideal)) (onTc (τ := Cert.NsaProjIdeal.τ) (Cert.NsaProjIdeal.main (F := Ideal))) ⟨m, fun _ => 0, g⟩ (fun r => ∀ c : Dev Cert.NsaProjIdeal.nD,
          r.2.mem ((c.tc : Thread Cert.NsaProjIdeal.nD Cert.NsaProjIdeal.τ).loc Cert.NsaProjIdeal.main_v14_0) = v0 c
          ∧ r.2.mem ((c.tc : Thread Cert.NsaProjIdeal.nD Cert.NsaProjIdeal.τ).loc Cert.NsaProjIdeal.main_v14_1) = v1 c
          ∧ r.2.mem ((c.tc : Thread Cert.NsaProjIdeal.nD Cert.NsaProjIdeal.τ).loc Cert.NsaProjIdeal.main_v14_2) = v2 c
          ∧ r.2.mem ((c.tc : Thread Cert.NsaProjIdeal.nD Cert.NsaProjIdeal.τ).loc Cert.NsaProjIdeal.main_v14_3) = v3 c
          ∧ r.2.mem ((c.tc : Thread Cert.NsaProjIdeal.nD Cert.NsaProjIdeal.τ).loc Cert.NsaProjIdeal.main_v14_4) = v4 c
          ∧ r.2.mem ((c.tc : Thread Cert.NsaProjIdeal.nD Cert.NsaProjIdeal.τ).loc Cert.NsaProjIdeal.main_v14_5) = v5 c
          ∧ r.2.mem ((c.tc : Thread Cert.NsaProjIdeal.nD Cert.NsaProjIdeal.τ).loc Cert.NsaProjIdeal.main_v14_6) = v6 c
          ∧ r.2.mem ((c.tc : Thread Cert.NsaProjIdeal.nD Cert.NsaProjIdeal.τ).loc Cert.NsaProjIdeal.main_v14_7) = v7 c
          ∧ r.2.mem ((c.tc : Thread Cert.NsaProjIdeal.nD Cert.NsaProjIdeal.τ).loc Cert.NsaProjIdeal.main_arg0) = m ((c.tc : Thread Cert.NsaProjIdeal.nD Cert.NsaProjIdeal.τ).loc Cert.NsaProjIdeal.main_arg0)
          ∧ r.2.mem ((c.tc : Thread Cert.NsaProjIdeal.nD Cert.NsaProjIdeal.τ).loc Cert.NsaProjIdeal.main_arg1) = m ((c.tc : Thread Cert.NsaProjIdeal.nD Cert.NsaProjIdeal.τ).loc Cert.NsaProjIdeal.main_arg1))
      ∧ θ_run (Cert.NsaProjReferenceIdeal.defs (F := Ideal)) (onTc (τ := Cert.NsaProjReferenceIdeal.τ) (Cert.NsaProjReferenceIdeal.main (F := Ideal))) ⟨m', fun _ => 0, g'⟩ (fun r => ∀ c : Dev Cert.NsaProjReferenceIdeal.nD,
          r.2.mem ((c.tc : Thread Cert.NsaProjReferenceIdeal.nD Cert.NsaProjReferenceIdeal.τ).loc Cert.NsaProjReferenceIdeal.main_v5) = v0 c
          ∧ r.2.mem ((c.tc : Thread Cert.NsaProjReferenceIdeal.nD Cert.NsaProjReferenceIdeal.τ).loc Cert.NsaProjReferenceIdeal.main_v7) = v1 c
          ∧ r.2.mem ((c.tc : Thread Cert.NsaProjReferenceIdeal.nD Cert.NsaProjReferenceIdeal.τ).loc Cert.NsaProjReferenceIdeal.main_v27) = v2 c
          ∧ r.2.mem ((c.tc : Thread Cert.NsaProjReferenceIdeal.nD Cert.NsaProjReferenceIdeal.τ).loc Cert.NsaProjReferenceIdeal.main_v22) = v3 c
          ∧ r.2.mem ((c.tc : Thread Cert.NsaProjReferenceIdeal.nD Cert.NsaProjReferenceIdeal.τ).loc Cert.NsaProjReferenceIdeal.main_v24) = v4 c
          ∧ r.2.mem ((c.tc : Thread Cert.NsaProjReferenceIdeal.nD Cert.NsaProjReferenceIdeal.τ).loc Cert.NsaProjReferenceIdeal.main_v26) = v5 c
          ∧ r.2.mem ((c.tc : Thread Cert.NsaProjReferenceIdeal.nD Cert.NsaProjReferenceIdeal.τ).loc Cert.NsaProjReferenceIdeal.main_v28) = v6 c
          ∧ r.2.mem ((c.tc : Thread Cert.NsaProjReferenceIdeal.nD Cert.NsaProjReferenceIdeal.τ).loc Cert.NsaProjReferenceIdeal.main_v29) = v7 c
          ∧ r.2.mem ((c.tc : Thread Cert.NsaProjReferenceIdeal.nD Cert.NsaProjReferenceIdeal.τ).loc Cert.NsaProjReferenceIdeal.main_arg0) = m' ((c.tc : Thread Cert.NsaProjReferenceIdeal.nD Cert.NsaProjReferenceIdeal.τ).loc Cert.NsaProjReferenceIdeal.main_arg0)
          ∧ r.2.mem ((c.tc : Thread Cert.NsaProjReferenceIdeal.nD Cert.NsaProjReferenceIdeal.τ).loc Cert.NsaProjReferenceIdeal.main_arg1) = m' ((c.tc : Thread Cert.NsaProjReferenceIdeal.nD Cert.NsaProjReferenceIdeal.τ).loc Cert.NsaProjReferenceIdeal.main_arg1))

def preserves_NsaRows_NsaRowsIdeal : Prop :=
  True

def algebraic_NsaRowsIdeal_NsaRowsReferenceIdeal [hNsaRowsIdeal : Cert.NsaRowsIdeal.Facts] [hNsaRowsReferenceIdeal : Cert.NsaRowsReferenceIdeal.Facts] : Prop :=
  ∀ (m : (ℓ : Loc Cert.NsaRowsIdeal.nD Cert.NsaRowsIdeal.τ Cert.NsaRowsIdeal.sig) → Buf (Elt Ideal) ℓ) (g : Dev Cert.NsaRowsIdeal.nD → PrngReg)
    (m' : (ℓ : Loc Cert.NsaRowsReferenceIdeal.nD Cert.NsaRowsReferenceIdeal.τ Cert.NsaRowsReferenceIdeal.sig) → Buf (Elt Ideal) ℓ) (g' : Dev Cert.NsaRowsReferenceIdeal.nD → PrngReg), Pre_NsaRowsIdeal m →
    (∀ c : Dev Cert.NsaRowsIdeal.nD,
      m' ((c.tc : Thread Cert.NsaRowsReferenceIdeal.nD Cert.NsaRowsReferenceIdeal.τ).loc Cert.NsaRowsReferenceIdeal.main_arg0) = m ((c.tc : Thread Cert.NsaRowsIdeal.nD Cert.NsaRowsIdeal.τ).loc Cert.NsaRowsIdeal.main_arg0)
      ∧ m' ((c.tc : Thread Cert.NsaRowsReferenceIdeal.nD Cert.NsaRowsReferenceIdeal.τ).loc Cert.NsaRowsReferenceIdeal.main_arg1) = m ((c.tc : Thread Cert.NsaRowsIdeal.nD Cert.NsaRowsIdeal.τ).loc Cert.NsaRowsIdeal.main_arg1)) →
    ∃ (v0 : (c : Dev Cert.NsaRowsIdeal.nD) → Buf (Elt Ideal) ((c.tc : Thread Cert.NsaRowsIdeal.nD Cert.NsaRowsIdeal.τ).loc Cert.NsaRowsIdeal.main_v8_0)) (v1 : (c : Dev Cert.NsaRowsIdeal.nD) → Buf (Elt Ideal) ((c.tc : Thread Cert.NsaRowsIdeal.nD Cert.NsaRowsIdeal.τ).loc Cert.NsaRowsIdeal.main_v8_1)) (v2 : (c : Dev Cert.NsaRowsIdeal.nD) → Buf (Elt Ideal) ((c.tc : Thread Cert.NsaRowsIdeal.nD Cert.NsaRowsIdeal.τ).loc Cert.NsaRowsIdeal.main_v8_2)),
      θ_run (Cert.NsaRowsIdeal.defs (F := Ideal)) (onTc (τ := Cert.NsaRowsIdeal.τ) (Cert.NsaRowsIdeal.main (F := Ideal))) ⟨m, fun _ => 0, g⟩ (fun r => ∀ c : Dev Cert.NsaRowsIdeal.nD,
          r.2.mem ((c.tc : Thread Cert.NsaRowsIdeal.nD Cert.NsaRowsIdeal.τ).loc Cert.NsaRowsIdeal.main_v8_0) = v0 c
          ∧ r.2.mem ((c.tc : Thread Cert.NsaRowsIdeal.nD Cert.NsaRowsIdeal.τ).loc Cert.NsaRowsIdeal.main_v8_1) = v1 c
          ∧ r.2.mem ((c.tc : Thread Cert.NsaRowsIdeal.nD Cert.NsaRowsIdeal.τ).loc Cert.NsaRowsIdeal.main_v8_2) = v2 c
          ∧ r.2.mem ((c.tc : Thread Cert.NsaRowsIdeal.nD Cert.NsaRowsIdeal.τ).loc Cert.NsaRowsIdeal.main_arg0) = m ((c.tc : Thread Cert.NsaRowsIdeal.nD Cert.NsaRowsIdeal.τ).loc Cert.NsaRowsIdeal.main_arg0)
          ∧ r.2.mem ((c.tc : Thread Cert.NsaRowsIdeal.nD Cert.NsaRowsIdeal.τ).loc Cert.NsaRowsIdeal.main_arg1) = m ((c.tc : Thread Cert.NsaRowsIdeal.nD Cert.NsaRowsIdeal.τ).loc Cert.NsaRowsIdeal.main_arg1))
      ∧ θ_run (Cert.NsaRowsReferenceIdeal.defs (F := Ideal)) (onTc (τ := Cert.NsaRowsReferenceIdeal.τ) (Cert.NsaRowsReferenceIdeal.main (F := Ideal))) ⟨m', fun _ => 0, g'⟩ (fun r => ∀ c : Dev Cert.NsaRowsReferenceIdeal.nD,
          r.2.mem ((c.tc : Thread Cert.NsaRowsReferenceIdeal.nD Cert.NsaRowsReferenceIdeal.τ).loc Cert.NsaRowsReferenceIdeal.main_v13) = v0 c
          ∧ r.2.mem ((c.tc : Thread Cert.NsaRowsReferenceIdeal.nD Cert.NsaRowsReferenceIdeal.τ).loc Cert.NsaRowsReferenceIdeal.main_v14) = v1 c
          ∧ r.2.mem ((c.tc : Thread Cert.NsaRowsReferenceIdeal.nD Cert.NsaRowsReferenceIdeal.τ).loc Cert.NsaRowsReferenceIdeal.main_v9) = v2 c
          ∧ r.2.mem ((c.tc : Thread Cert.NsaRowsReferenceIdeal.nD Cert.NsaRowsReferenceIdeal.τ).loc Cert.NsaRowsReferenceIdeal.main_arg0) = m' ((c.tc : Thread Cert.NsaRowsReferenceIdeal.nD Cert.NsaRowsReferenceIdeal.τ).loc Cert.NsaRowsReferenceIdeal.main_arg0)
          ∧ r.2.mem ((c.tc : Thread Cert.NsaRowsReferenceIdeal.nD Cert.NsaRowsReferenceIdeal.τ).loc Cert.NsaRowsReferenceIdeal.main_arg1) = m' ((c.tc : Thread Cert.NsaRowsReferenceIdeal.nD Cert.NsaRowsReferenceIdeal.τ).loc Cert.NsaRowsReferenceIdeal.main_arg1))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hProj : Cert.Proj.Facts) (hProjIdeal : Cert.ProjIdeal.Facts) (hProjReferenceIdeal : Cert.ProjReferenceIdeal.Facts) (hRows : Cert.Rows.Facts) (hRowsIdeal : Cert.RowsIdeal.Facts) (hRowsReferenceIdeal : Cert.RowsReferenceIdeal.Facts) (hNsaProj : Cert.NsaProj.Facts) (hNsaProjIdeal : Cert.NsaProjIdeal.Facts) (hNsaProjReferenceIdeal : Cert.NsaProjReferenceIdeal.Facts) (hNsaRows : Cert.NsaRows.Facts) (hNsaRowsIdeal : Cert.NsaRowsIdeal.Facts) (hNsaRowsReferenceIdeal : Cert.NsaRowsReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Tail (hTail := hTail)
    ∧ quiescent_TailIdeal (hTailIdeal := hTailIdeal)
    ∧ quiescent_TailReferenceIdeal (hTailReferenceIdeal := hTailReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Rows (hRows := hRows)
    ∧ quiescent_RowsIdeal (hRowsIdeal := hRowsIdeal)
    ∧ quiescent_RowsReferenceIdeal (hRowsReferenceIdeal := hRowsReferenceIdeal)
    ∧ quiescent_NsaProj (hNsaProj := hNsaProj)
    ∧ quiescent_NsaProjIdeal (hNsaProjIdeal := hNsaProjIdeal)
    ∧ quiescent_NsaProjReferenceIdeal (hNsaProjReferenceIdeal := hNsaProjReferenceIdeal)
    ∧ quiescent_NsaRows (hNsaRows := hNsaRows)
    ∧ quiescent_NsaRowsIdeal (hNsaRowsIdeal := hNsaRowsIdeal)
    ∧ quiescent_NsaRowsReferenceIdeal (hNsaRowsReferenceIdeal := hNsaRowsReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Tail_TailIdeal
    ∧ algebraic_TailIdeal_TailReferenceIdeal (hTailIdeal := hTailIdeal) (hTailReferenceIdeal := hTailReferenceIdeal)
    ∧ preserves_Proj_ProjIdeal
    ∧ algebraic_ProjIdeal_ProjReferenceIdeal (hProjIdeal := hProjIdeal) (hProjReferenceIdeal := hProjReferenceIdeal)
    ∧ preserves_Rows_RowsIdeal
    ∧ algebraic_RowsIdeal_RowsReferenceIdeal (hRowsIdeal := hRowsIdeal) (hRowsReferenceIdeal := hRowsReferenceIdeal)
    ∧ preserves_NsaProj_NsaProjIdeal
    ∧ algebraic_NsaProjIdeal_NsaProjReferenceIdeal (hNsaProjIdeal := hNsaProjIdeal) (hNsaProjReferenceIdeal := hNsaProjReferenceIdeal)
    ∧ preserves_NsaRows_NsaRowsIdeal
    ∧ algebraic_NsaRowsIdeal_NsaRowsReferenceIdeal (hNsaRowsIdeal := hNsaRowsIdeal) (hNsaRowsReferenceIdeal := hNsaRowsReferenceIdeal)
-- ==== Pre_finite_scores.lean ====
abbrev S16384x1024 : Shape := ⟨2, ![16384, 1024]⟩
abbrev S8x1024x2048 : Shape := ⟨3, ![8, 1024, 2048]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x1024x2048 : S_.BroadcastsInDim S8x1024x2048 (![] : Fin 0 → Fin S8x1024x2048.rank)
  reducesTo_S8x1024x2048_S_d0_1_2 : S8x1024x2048.ReducesTo [0, 1, 2] S_

variable [Facts]

def fn {F : FTy → Type} [FloatOps F] (main_arg0 : FVec F S16384x1024 .bf16) (main_arg1 : FVec F S8x1024x2048 .bf16) (main_arg2 : FVec F S16384x1024 .bf16) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S8x1024x2048 .f32 := (extf .f32 · bitsLt_bf16_f32) main_arg1
  let main_v6 : FVec F S8x1024x2048 .f32 := Host.absf main_v5
  let main_cst_0 : FVec F S_ .f32 := constant S_ .f32 0x7F800000#32
  let main_v7 : FVec F S8x1024x2048 .f32 := broadcastInDim S8x1024x2048 ![] bcast_S_S8x1024x2048 main_cst_0
  let main_v8 : IVec S8x1024x2048 1 := cmpf .olt main_v6 main_v7
  let main_c_1 : IVec S_ 1 := constantI S_ 1 1#1
  let main_v9 : IVec S_ 1 := (fun x v => Host.reduce IntOp.andi x v reducesTo_S8x1024x2048_S_d0_1_2 h_S_) main_v8 main_c_1
  let main_v10 : IVec S_ 1 := andi main_v4 main_v9
  main_v10
-- ==== Kernel.lean ====
abbrev S16384x1024 : Shape := ⟨2, ![16384, 1024]⟩
abbrev S8x1024x2048 : Shape := ⟨3, ![8, 1024, 2048]⟩
abbrev S512x256 : Shape := ⟨2, ![512, 256]⟩
abbrev S256x128 : Shape := ⟨2, ![256, 128]⟩
abbrev S1x128x2048 : Shape := ⟨3, ![1, 128, 2048]⟩
abbrev S2048x128 : Shape := ⟨2, ![2048, 128]⟩
abbrev S2x256x128 : Shape := ⟨3, ![2, 256, 128]⟩
abbrev S256x256 : Shape := ⟨2, ![256, 256]⟩
abbrev S256x1 : Shape := ⟨2, ![256, 1]⟩
abbrev S1x128x256 : Shape := ⟨3, ![1, 128, 256]⟩
abbrev S128x256 : Shape := ⟨2, ![128, 256]⟩
abbrev S256x512 : Shape := ⟨2, ![256, 512]⟩
abbrev S1x256x128 : Shape := ⟨3, ![1, 256, 128]⟩

abbrev nBuf : Space → Nat
  | .hbm => 5
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S8x1024x2048, .bf16⟩
  | .hbm, ⟨2, _⟩ => ⟨S16384x1024, .bf16⟩
  | .hbm, ⟨3, _⟩ => ⟨S512x256, .bf16⟩
  | .hbm, ⟨4, _⟩ => ⟨S16384x1024, .bf16⟩
  | .local _ .vmem, ⟨0, _⟩ => ⟨S256x128, .bf16⟩
  | .local _ .vmem, ⟨1, _⟩ => ⟨S256x128, .bf16⟩
  | .local _ .vmem, ⟨2, _⟩ => ⟨S1x128x2048, .bf16⟩
  | .local _ .vmem, ⟨3, _⟩ => ⟨S1x128x2048, .bf16⟩
  | .local _ .vmem, ⟨4, _⟩ => ⟨S2048x128, .bf16⟩
  | .local _ .vmem, ⟨5, _⟩ => ⟨S2048x128, .bf16⟩
  | .local _ .vmem, ⟨6, _⟩ => ⟨S512x256, .bf16⟩
  | .local _ .vmem, ⟨7, _⟩ => ⟨S256x128, .bf16⟩
  | .local _ .vmem, ⟨8, _⟩ => ⟨S256x128, .bf16⟩
  | .local _ .vmem, ⟨9, _⟩ => ⟨S2x256x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 8, 8], ![false, false, false]⟩

def k0_mult1 (i : grid0.Coords) : BitVec 32 :=
  let arg2 : BitVec 32 := BitVec.ofNat 32 (i 2).val
  let c256_i32 : BitVec 32 := 256#32
  let v16 : BitVec 32 := Scalar.muli arg2 c256_i32
  v16
def k0_off1 (i : grid0.Coords) : Fin 3 → Nat :=
  let c0_8 : Index := 0#32
  let c0_9 : Index := 0#32
  let arg2 : BitVec 32 := BitVec.ofNat 32 (i 2).val
  let c256_i32 : BitVec 32 := 256#32
  let v16 : BitVec 32 := Scalar.muli arg2 c256_i32
  let v17 : BitVec 32 := v16
  let v18 : Index := Scalar.indexCast v17
  ![0, 0, v18.toNat]
def k0_off2 (i : grid0.Coords) : Fin 2 → Nat :=
  let arg2 : BitVec 32 := BitVec.ofNat 32 (i 2).val
  let c256_i32 : BitVec 32 := 256#32
  let v16 : BitVec 32 := Scalar.muli arg2 c256_i32
  let v17 : BitVec 32 := v16
  let v21 : Index := Scalar.indexCast v17
  let c0_10 : Index := 0#32
  ![v21.toNat, 0]
@[reducible] def k0_t1_loop (i : grid0.Coords) : Scf.Loop 32 :=
  let c0_i32_42 : BitVec 32 := 0#32
  let arg2 : BitVec 32 := BitVec.ofNat 32 (i 2).val
  let c0_i32 : BitVec 32 := 0#32
  let v94 : BitVec 1 := Scalar.cmpi .sgt arg2 c0_i32
  let v95 : BitVec 32 := Scalar.extui v94
  let c0_i32_38 : BitVec 32 := 0#32
  let v96 : BitVec 1 := Scalar.cmpi .slt arg2 c0_i32_38
  let v97 : BitVec 32 := Scalar.extui v96
  let v98 : BitVec 32 := Scalar.subi v95 v97
  let c2_i32 : BitVec 32 := 2#32
  let c0_i32_39 : BitVec 32 := 0#32
  let v99 : BitVec 1 := Scalar.cmpi .sgt c2_i32 c0_i32_39
  let v100 : BitVec 32 := Scalar.extui v99
  let c0_i32_40 : BitVec 32 := 0#32
  let v101 : BitVec 1 := Scalar.cmpi .slt c2_i32 c0_i32_40
  let v102 : BitVec 32 := Scalar.extui v101
  let v103 : BitVec 32 := Scalar.subi v100 v102
  let v104 : BitVec 1 := Scalar.cmpi .ne v98 v103
  let v105 : BitVec 32 := Scalar.remsi arg2 c2_i32
  let c0_i32_41 : BitVec 32 := 0#32
  let v106 : BitVec 1 := Scalar.cmpi .ne v105 c0_i32_41
  let v107 : BitVec 1 := Scalar.andi v104 v106
  let v93 : BitVec 32 := Scalar.divsi arg2 c2_i32
  let c1_i32 : BitVec 32 := 1#32
  let v108 : BitVec 32 := Scalar.subi v93 c1_i32
  let v109 : BitVec 32 := Scalar.select v107 v108 v93
  let v110 : BitVec 32 := Scalar.subi v109 c0_i32_42
  let c1_i32_43 : BitVec 32 := 1#32
  let v112 : BitVec 32 := Scalar.divsi v110 c1_i32_43
  let v113 : BitVec 32 := Scalar.muli v112 c1_i32_43
  let v114 : BitVec 32 := Scalar.addi c0_i32_42 v113
  let c1_i32_44 : BitVec 32 := 1#32
  ⟨c0_i32_42, v114, c1_i32_44⟩
def k0_mult2 (i : grid0.Coords) (k0_t1 : Fin (k0_t1_loop i).trips) : BitVec 32 :=
  let arg2 : BitVec 32 := BitVec.ofNat 32 (i 2).val
  let c1_i32_62 : BitVec 32 := 1#32
  let v137 : BitVec 32 := Scalar.subi arg2 c1_i32_62
  let c2_i32_63 : BitVec 32 := 2#32
  let c0_i32_42 : BitVec 32 := 0#32
  let c1_i32_44 : BitVec 32 := 1#32
  let arg9 : BitVec 32 := Scf.iv c0_i32_42 c1_i32_44 k0_t1
  let v138 : BitVec 32 := Scalar.muli c2_i32_63 arg9
  let v139 : BitVec 32 := Scalar.subi v137 v138
  let c256_i32_66 : BitVec 32 := 256#32
  let v143 : BitVec 32 := Scalar.muli v139 c256_i32_66
  v143
def k0_off3 (i : grid0.Coords) (k0_t1 : Fin (k0_t1_loop i).trips) (c1_i32_62 : BitVec 32) : Fin 3 → Nat :=
  let c0_67 : Index := 0#32
  let c0_68 : Index := 0#32
  let arg2 : BitVec 32 := BitVec.ofNat 32 (i 2).val
  let v137 : BitVec 32 := Scalar.subi arg2 c1_i32_62
  let c2_i32_63 : BitVec 32 := 2#32
  let c0_i32_42 : BitVec 32 := 0#32
  let c1_i32_44 : BitVec 32 := 1#32
  let arg9 : BitVec 32 := Scf.iv c0_i32_42 c1_i32_44 k0_t1
  let v138 : BitVec 32 := Scalar.muli c2_i32_63 arg9
  let v139 : BitVec 32 := Scalar.subi v137 v138
  let c256_i32_66 : BitVec 32 := 256#32
  let v143 : BitVec 32 := Scalar.muli v139 c256_i32_66
  let v144 : BitVec 32 := v143
  let v145 : Index := Scalar.indexCast v144
  ![0, 0, v145.toNat]
def k0_off4 (i : grid0.Coords) (k0_t1 : Fin (k0_t1_loop i).trips) (c1_i32_62 : BitVec 32) : Fin 2 → Nat :=
  let arg2 : BitVec 32 := BitVec.ofNat 32 (i 2).val
  let v137 : BitVec 32 := Scalar.subi arg2 c1_i32_62
  let c2_i32_63 : BitVec 32 := 2#32
  let c0_i32_42 : BitVec 32 := 0#32
  let c1_i32_44 : BitVec 32 := 1#32
  let arg9 : BitVec 32 := Scf.iv c0_i32_42 c1_i32_44 k0_t1
  let v138 : BitVec 32 := Scalar.muli c2_i32_63 arg9
  let v139 : BitVec 32 := Scalar.subi v137 v138
  let c256_i32_66 : BitVec 32 := 256#32
  let v143 : BitVec 32 := Scalar.muli v139 c256_i32_66
  let v144 : BitVec 32 := v143
  let v148 : Index := Scalar.indexCast v144
  let c0_69 : Index := 0#32
  ![v148.toNat, 0]
def k0_mult3 (i : grid0.Coords) (k0_t1 : Fin (k0_t1_loop i).trips) : BitVec 32 :=
  let arg2 : BitVec 32 := BitVec.ofNat 32 (i 2).val
  let c2_i32_64 : BitVec 32 := 2#32
  let v140 : BitVec 32 := Scalar.subi arg2 c2_i32_64
  let c2_i32_65 : BitVec 32 := 2#32
  let c0_i32_42 : BitVec 32 := 0#32
  let c1_i32_44 : BitVec 32 := 1#32
  let arg9 : BitVec 32 := Scf.iv c0_i32_42 c1_i32_44 k0_t1
  let v141 : BitVec 32 := Scalar.muli c2_i32_65 arg9
  let v142 : BitVec 32 := Scalar.subi v140 v141
  let c256_i32_80 : BitVec 32 := 256#32
  let v188 : BitVec 32 := Scalar.muli v142 c256_i32_80
  v188
@[reducible] def k0_t2_loop (i : grid0.Coords) : Scf.Loop 32 :=
  let c0_i32_42 : BitVec 32 := 0#32
  let arg2 : BitVec 32 := BitVec.ofNat 32 (i 2).val
  let c0_i32 : BitVec 32 := 0#32
  let v94 : BitVec 1 := Scalar.cmpi .sgt arg2 c0_i32
  let v95 : BitVec 32 := Scalar.extui v94
  let c0_i32_38 : BitVec 32 := 0#32
  let v96 : BitVec 1 := Scalar.cmpi .slt arg2 c0_i32_38
  let v97 : BitVec 32 := Scalar.extui v96
  let v98 : BitVec 32 := Scalar.subi v95 v97
  let c2_i32 : BitVec 32 := 2#32
  let c0_i32_39 : BitVec 32 := 0#32
  let v99 : BitVec 1 := Scalar.cmpi .sgt c2_i32 c0_i32_39
  let v100 : BitVec 32 := Scalar.extui v99
  let c0_i32_40 : BitVec 32 := 0#32
  let v101 : BitVec 1 := Scalar.cmpi .slt c2_i32 c0_i32_40
  let v102 : BitVec 32 := Scalar.extui v101
  let v103 : BitVec 32 := Scalar.subi v100 v102
  let v104 : BitVec 1 := Scalar.cmpi .ne v98 v103
  let v105 : BitVec 32 := Scalar.remsi arg2 c2_i32
  let c0_i32_41 : BitVec 32 := 0#32
  let v106 : BitVec 1 := Scalar.cmpi .ne v105 c0_i32_41
  let v107 : BitVec 1 := Scalar.andi v104 v106
  let v93 : BitVec 32 := Scalar.divsi arg2 c2_i32
  let c1_i32 : BitVec 32 := 1#32
  let v108 : BitVec 32 := Scalar.subi v93 c1_i32
  let v109 : BitVec 32 := Scalar.select v107 v108 v93
  let v110 : BitVec 32 := Scalar.subi v109 c0_i32_42
  let c1_i32_43 : BitVec 32 := 1#32
  let v112 : BitVec 32 := Scalar.divsi v110 c1_i32_43
  let v113 : BitVec 32 := Scalar.muli v112 c1_i32_43
  let v114 : BitVec 32 := Scalar.addi c0_i32_42 v113
  let v111 : BitVec 32 := Scalar.addi c0_i32_42 v110
  let c1_i32_45 : BitVec 32 := 1#32
  ⟨v114, v111, c1_i32_45⟩
def k0_mult4 (i : grid0.Coords) (k0_t2 : Fin (k0_t2_loop i).trips) : BitVec 32 :=
  let arg2 : BitVec 32 := BitVec.ofNat 32 (i 2).val
  let c1_i32_62 : BitVec 32 := 1#32
  let v137 : BitVec 32 := Scalar.subi arg2 c1_i32_62
  let c2_i32_63 : BitVec 32 := 2#32
  let c0_i32_42 : BitVec 32 := 0#32
  let c0_i32 : BitVec 32 := 0#32
  let v94 : BitVec 1 := Scalar.cmpi .sgt arg2 c0_i32
  let v95 : BitVec 32 := Scalar.extui v94
  let c0_i32_38 : BitVec 32 := 0#32
  let v96 : BitVec 1 := Scalar.cmpi .slt arg2 c0_i32_38
  let v97 : BitVec 32 := Scalar.extui v96
  let v98 : BitVec 32 := Scalar.subi v95 v97
  let c2_i32 : BitVec 32 := 2#32
  let c0_i32_39 : BitVec 32 := 0#32
  let v99 : BitVec 1 := Scalar.cmpi .sgt c2_i32 c0_i32_39
  let v100 : BitVec 32 := Scalar.extui v99
  let c0_i32_40 : BitVec 32 := 0#32
  let v101 : BitVec 1 := Scalar.cmpi .slt c2_i32 c0_i32_40
  let v102 : BitVec 32 := Scalar.extui v101
  let v103 : BitVec 32 := Scalar.subi v100 v102
  let v104 : BitVec 1 := Scalar.cmpi .ne v98 v103
  let v105 : BitVec 32 := Scalar.remsi arg2 c2_i32
  let c0_i32_41 : BitVec 32 := 0#32
  let v106 : BitVec 1 := Scalar.cmpi .ne v105 c0_i32_41
  let v107 : BitVec 1 := Scalar.andi v104 v106
  let v93 : BitVec 32 := Scalar.divsi arg2 c2_i32
  let c1_i32 : BitVec 32 := 1#32
  let v108 : BitVec 32 := Scalar.subi v93 c1_i32
  let v109 : BitVec 32 := Scalar.select v107 v108 v93
  let v110 : BitVec 32 := Scalar.subi v109 c0_i32_42
  let c1_i32_43 : BitVec 32 := 1#32
  let v112 : BitVec 32 := Scalar.divsi v110 c1_i32_43
  let v113 : BitVec 32 := Scalar.muli v112 c1_i32_43
  let v114 : BitVec 32 := Scalar.addi c0_i32_42 v113
  let c1_i32_45 : BitVec 32 := 1#32
  let arg9 : BitVec 32 := Scf.iv v114 c1_i32_45 k0_t2
  let v138 : BitVec 32 := Scalar.muli c2_i32_63 arg9
  let v139 : BitVec 32 := Scalar.subi v137 v138
  let c256_i32_66 : BitVec 32 := 256#32
  let v143 : BitVec 32 := Scalar.muli v139 c256_i32_66
  v143
def k0_off5 (i : grid0.Coords) (k0_t2 : Fin (k0_t2_loop i).trips) (c1_i32_62 : BitVec 32) : Fin 3 → Nat :=
  let c0_67 : Index := 0#32
  let c0_68 : Index := 0#32
  let arg2 : BitVec 32 := BitVec.ofNat 32 (i 2).val
  let v137 : BitVec 32 := Scalar.subi arg2 c1_i32_62
  let c2_i32_63 : BitVec 32 := 2#32
  let c0_i32_42 : BitVec 32 := 0#32
  let c0_i32 : BitVec 32 := 0#32
  let v94 : BitVec 1 := Scalar.cmpi .sgt arg2 c0_i32
  let v95 : BitVec 32 := Scalar.extui v94
  let c0_i32_38 : BitVec 32 := 0#32
  let v96 : BitVec 1 := Scalar.cmpi .slt arg2 c0_i32_38
  let v97 : BitVec 32 := Scalar.extui v96
  let v98 : BitVec 32 := Scalar.subi v95 v97
  let c2_i32 : BitVec 32 := 2#32
  let c0_i32_39 : BitVec 32 := 0#32
  let v99 : BitVec 1 := Scalar.cmpi .sgt c2_i32 c0_i32_39
  let v100 : BitVec 32 := Scalar.extui v99
  let c0_i32_40 : BitVec 32 := 0#32
  let v101 : BitVec 1 := Scalar.cmpi .slt c2_i32 c0_i32_40
  let v102 : BitVec 32 := Scalar.extui v101
  let v103 : BitVec 32 := Scalar.subi v100 v102
  let v104 : BitVec 1 := Scalar.cmpi .ne v98 v103
  let v105 : BitVec 32 := Scalar.remsi arg2 c2_i32
  let c0_i32_41 : BitVec 32 := 0#32
  let v106 : BitVec 1 := Scalar.cmpi .ne v105 c0_i32_41
  let v107 : BitVec 1 := Scalar.andi v104 v106
  let v93 : BitVec 32 := Scalar.divsi arg2 c2_i32
  let c1_i32 : BitVec 32 := 1#32
  let v108 : BitVec 32 := Scalar.subi v93 c1_i32
  let v109 : BitVec 32 := Scalar.select v107 v108 v93
  let v110 : BitVec 32 := Scalar.subi v109 c0_i32_42
  let c1_i32_43 : BitVec 32 := 1#32
  let v112 : BitVec 32 := Scalar.divsi v110 c1_i32_43
  let v113 : BitVec 32 := Scalar.muli v112 c1_i32_43
  let v114 : BitVec 32 := Scalar.addi c0_i32_42 v113
  let c1_i32_45 : BitVec 32 := 1#32
  let arg9 : BitVec 32 := Scf.iv v114 c1_i32_45 k0_t2
  let v138 : BitVec 32 := Scalar.muli c2_i32_63 arg9
  let v139 : BitVec 32 := Scalar.subi v137 v138
  let c256_i32_66 : BitVec 32 := 256#32
  let v143 : BitVec 32 := Scalar.muli v139 c256_i32_66
  let v144 : BitVec 32 := v143
  let v145 : Index := Scalar.indexCast v144
  ![0, 0, v145.toNat]
def k0_off6 (i : grid0.Coords) (k0_t2 : Fin (k0_t2_loop i).trips) (c1_i32_62 : BitVec 32) : Fin 2 → Nat :=
  let arg2 : BitVec 32 := BitVec.ofNat 32 (i 2).val
  let v137 : BitVec 32 := Scalar.subi arg2 c1_i32_62
  let c2_i32_63 : BitVec 32 := 2#32
  let c0_i32_42 : BitVec 32 := 0#32
  let c0_i32 : BitVec 32 := 0#32
  let v94 : BitVec 1 := Scalar.cmpi .sgt arg2 c0_i32
  let v95 : BitVec 32 := Scalar.extui v94
  let c0_i32_38 : BitVec 32 := 0#32
  let v96 : BitVec 1 := Scalar.cmpi .slt arg2 c0_i32_38
  let v97 : BitVec 32 := Scalar.extui v96
  let v98 : BitVec 32 := Scalar.subi v95 v97
  let c2_i32 : BitVec 32 := 2#32
  let c0_i32_39 : BitVec 32 := 0#32
  let v99 : BitVec 1 := Scalar.cmpi .sgt c2_i32 c0_i32_39
  let v100 : BitVec 32 := Scalar.extui v99
  let c0_i32_40 : BitVec 32 := 0#32
  let v101 : BitVec 1 := Scalar.cmpi .slt c2_i32 c0_i32_40
  let v102 : BitVec 32 := Scalar.extui v101
  let v103 : BitVec 32 := Scalar.subi v100 v102
  let v104 : BitVec 1 := Scalar.cmpi .ne v98 v103
  let v105 : BitVec 32 := Scalar.remsi arg2 c2_i32
  let c0_i32_41 : BitVec 32 := 0#32
  let v106 : BitVec 1 := Scalar.cmpi .ne v105 c0_i32_41
  let v107 : BitVec 1 := Scalar.andi v104 v106
  let v93 : BitVec 32 := Scalar.divsi arg2 c2_i32
  let c1_i32 : BitVec 32 := 1#32
  let v108 : BitVec 32 := Scalar.subi v93 c1_i32
  let v109 : BitVec 32 := Scalar.select v107 v108 v93
  let v110 : BitVec 32 := Scalar.subi v109 c0_i32_42
  let c1_i32_43 : BitVec 32 := 1#32
  let v112 : BitVec 32 := Scalar.divsi v110 c1_i32_43
  let v113 : BitVec 32 := Scalar.muli v112 c1_i32_43
  let v114 : BitVec 32 := Scalar.addi c0_i32_42 v113
  let c1_i32_45 : BitVec 32 := 1#32
  let arg9 : BitVec 32 := Scf.iv v114 c1_i32_45 k0_t2
  let v138 : BitVec 32 := Scalar.muli c2_i32_63 arg9
  let v139 : BitVec 32 := Scalar.subi v137 v138
  let c256_i32_66 : BitVec 32 := 256#32
  let v143 : BitVec 32 := Scalar.muli v139 c256_i32_66
  let v144 : BitVec 32 := v143
  let v148 : Index := Scalar.indexCast v144
  let c0_69 : Index := 0#32
  ![v148.toNat, 0]
def k0_mult5 (i : grid0.Coords) (k0_t2 : Fin (k0_t2_loop i).trips) : BitVec 32 :=
  let arg2 : BitVec 32 := BitVec.ofNat 32 (i 2).val
  let c2_i32_64 : BitVec 32 := 2#32
  let v140 : BitVec 32 := Scalar.subi arg2 c2_i32_64
  let c2_i32_65 : BitVec 32 := 2#32
  let c0_i32_42 : BitVec 32 := 0#32
  let c0_i32 : BitVec 32 := 0#32
  let v94 : BitVec 1 := Scalar.cmpi .sgt arg2 c0_i32
  let v95 : BitVec 32 := Scalar.extui v94
  let c0_i32_38 : BitVec 32 := 0#32
  let v96 : BitVec 1 := Scalar.cmpi .slt arg2 c0_i32_38
  let v97 : BitVec 32 := Scalar.extui v96
  let v98 : BitVec 32 := Scalar.subi v95 v97
  let c2_i32 : BitVec 32 := 2#32
  let c0_i32_39 : BitVec 32 := 0#32
  let v99 : BitVec 1 := Scalar.cmpi .sgt c2_i32 c0_i32_39
  let v100 : BitVec 32 := Scalar.extui v99
  let c0_i32_40 : BitVec 32 := 0#32
  let v101 : BitVec 1 := Scalar.cmpi .slt c2_i32 c0_i32_40
  let v102 : BitVec 32 := Scalar.extui v101
  let v103 : BitVec 32 := Scalar.subi v100 v102
  let v104 : BitVec 1 := Scalar.cmpi .ne v98 v103
  let v105 : BitVec 32 := Scalar.remsi arg2 c2_i32
  let c0_i32_41 : BitVec 32 := 0#32
  let v106 : BitVec 1 := Scalar.cmpi .ne v105 c0_i32_41
  let v107 : BitVec 1 := Scalar.andi v104 v106
  let v93 : BitVec 32 := Scalar.divsi arg2 c2_i32
  let c1_i32 : BitVec 32 := 1#32
  let v108 : BitVec 32 := Scalar.subi v93 c1_i32
  let v109 : BitVec 32 := Scalar.select v107 v108 v93
  let v110 : BitVec 32 := Scalar.subi v109 c0_i32_42
  let c1_i32_43 : BitVec 32 := 1#32
  let v112 : BitVec 32 := Scalar.divsi v110 c1_i32_43
  let v113 : BitVec 32 := Scalar.muli v112 c1_i32_43
  let v114 : BitVec 32 := Scalar.addi c0_i32_42 v113
  let c1_i32_45 : BitVec 32 := 1#32
  let arg9 : BitVec 32 := Scf.iv v114 c1_i32_45 k0_t2
  let v141 : BitVec 32 := Scalar.muli c2_i32_65 arg9
  let v142 : BitVec 32 := Scalar.subi v140 v141
  let c256_i32_80 : BitVec 32 := 256#32
  let v188 : BitVec 32 := Scalar.muli v142 c256_i32_80
  v188
def k0_cond1 (i : grid0.Coords) : BitVec 1 :=
  let arg2 : BitVec 32 := BitVec.ofNat 32 (i 2).val
  let c2_i32_46 : BitVec 32 := 2#32
  let c0_i32_47 : BitVec 32 := 0#32
  let v117 : BitVec 1 := Scalar.cmpi .eq c2_i32_46 c0_i32_47
  let c1_i32_48 : BitVec 32 := 1#32
  let v118 : BitVec 32 := Scalar.select v117 c1_i32_48 c2_i32_46
  let v119 : BitVec 32 := Scalar.remsi arg2 v118
  let c0_i32_50 : BitVec 32 := 0#32
  let v121 : BitVec 1 := Scalar.cmpi .slt v119 c0_i32_50
  let c0_i32_51 : BitVec 32 := 0#32
  let v122 : BitVec 1 := Scalar.cmpi .slt v118 c0_i32_51
  let v123 : BitVec 1 := Scalar.xori v121 v122
  let c0_i32_49 : BitVec 32 := 0#32
  let v120 : BitVec 1 := Scalar.cmpi .ne v119 c0_i32_49
  let v124 : BitVec 1 := Scalar.andi v123 v120
  let v125 : BitVec 32 := Scalar.addi v119 v118
  let v126 : BitVec 32 := Scalar.select v124 v125 v119
  let c1_i32_52 : BitVec 32 := 1#32
  let v127 : BitVec 1 := Scalar.cmpi .eq v126 c1_i32_52
  let v128 : BitVec 32 := Scalar.extui v127
  let c0_i32_53 : BitVec 32 := 0#32
  let v129 : BitVec 1 := Scalar.cmpi .ne v128 c0_i32_53
  v129

def k0_mult6 : BitVec 32 :=
  let c0_i32_62 : BitVec 32 := 0#32
  c0_i32_62
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "neg_log2_e" => some ((-((Real.log 2)⁻¹) : ℝ) : EReal)
  | _ => none
-- ==== ReferenceIdeal.lean ====
abbrev S16384x1024 : Shape := ⟨2, ![16384, 1024]⟩
abbrev S8x1024x2048 : Shape := ⟨3, ![8, 1024, 2048]⟩
abbrev S8x2048x16x64 : Shape := ⟨4, ![8, 2048, 16, 64]⟩
abbrev S8x16x64x2048 : Shape := ⟨4, ![8, 16, 64, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x16x2048x2048 : Shape := ⟨4, ![8, 16, 2048, 2048]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S8x1024x2048, .bf16⟩
  | .hbm, ⟨2, _⟩ => ⟨S16384x1024, .bf16⟩
  | .hbm, ⟨3, _⟩ => ⟨S16384x1024, .f32⟩
  | .hbm, ⟨4, _⟩ => ⟨S8x2048x16x64, .f32⟩
  | .hbm, ⟨5, _⟩ => ⟨S8x1024x2048, .f32⟩
  | .hbm, ⟨6, _⟩ => ⟨S8x16x64x2048, .f32⟩
  | .hbm, ⟨7, _⟩ => ⟨S16384x1024, .f32⟩
  | .hbm, ⟨8, _⟩ => ⟨S8x2048x16x64, .f32⟩
  | .hbm, ⟨9, _⟩ => ⟨S2048, .i32⟩
  | .hbm, ⟨10, _⟩ => ⟨S1x2048, .i32⟩
  | .hbm, ⟨11, _⟩ => ⟨S2048x1, .i32⟩
  | .hbm, ⟨12, _⟩ => ⟨S2048x2048, .i32⟩
  | .hbm, ⟨13, _⟩ => ⟨S2048x2048, .i32⟩
  | .hbm, ⟨14, _⟩ => ⟨S2048x2048, .i1⟩
  | .hbm, ⟨15, _⟩ => ⟨S8x16x2048x2048, .f32⟩
  | .hbm, ⟨16, _⟩ => ⟨S_, .f32⟩
  | .hbm, ⟨17, _⟩ => ⟨S8x16x2048x2048, .f32⟩
  | .hbm, ⟨18, _⟩ => ⟨S8x16x2048x2048, .f32⟩
  | .hbm, ⟨19, _⟩ => ⟨S8x16x2048x2048, .f32⟩
  | .hbm, ⟨20, _⟩ => ⟨S8x16x2048x2048, .f32⟩
  | .hbm, ⟨21, _⟩ => ⟨S8x16x2048x2048, .i1⟩
  | .hbm, ⟨22, _⟩ => ⟨S8x16x2048x2048, .f32⟩
  | .hbm, ⟨23, _⟩ => ⟨S8x16x2048x2048, .f32⟩
  | .hbm, ⟨24, _⟩ => ⟨S8x16x2048x2048, .f32⟩
  | .hbm, ⟨25, _⟩ => ⟨S8x16x2048x2048, .f32⟩
  | .hbm, ⟨26, _⟩ => ⟨S8x16x2048x2048, .f32⟩
  | .hbm, ⟨27, _⟩ => ⟨S8x16x2048x2048, .f32⟩
  | .hbm, ⟨28, _⟩ => ⟨S8x16x2048x2048, .f32⟩
  | .hbm, ⟨29, _⟩ => ⟨S8x16x2048x2048, .f32⟩
  | .hbm, ⟨30, _⟩ => ⟨S_, .f32⟩
  | .hbm, ⟨31, _⟩ => ⟨S_, .f32⟩
  | .hbm, ⟨32, _⟩ => ⟨S8x16x2048x2048, .i1⟩
  | .hbm, ⟨33, _⟩ => ⟨S8x16x2048x2048, .f32⟩
  | .hbm, ⟨34, _⟩ => ⟨S8x16x2048x2048, .f32⟩
  | .hbm, ⟨35, _⟩ => ⟨S_, .f32⟩
  | .hbm, ⟨36, _⟩ => ⟨S_, .f32⟩
  | .hbm, ⟨37, _⟩ => ⟨S8x16x2048x2048, .f32⟩
  | .hbm, ⟨38, _⟩ => ⟨S8x16x2048x2048, .f32⟩
  | .hbm, ⟨39, _⟩ => ⟨S8x16x2048x2048, .f32⟩
  | .hbm, ⟨40, _⟩ => ⟨S_, .f32⟩
  | .hbm, ⟨41, _⟩ => ⟨S8x16x2048x2048, .f32⟩
  | .hbm, ⟨42, _⟩ => ⟨S8x16x2048x2048, .f32⟩
  | .hbm, ⟨43, _⟩ => ⟨S8x16x2048x2048, .f32⟩
  | .hbm, ⟨44, _⟩ => ⟨S8x16x2048x2048, .f32⟩
  | .hbm, ⟨45, _⟩ => ⟨S8x16x2048x2048, .i1⟩
  | .hbm, ⟨46, _⟩ => ⟨S8x16x2048x2048, .f32⟩
  | .hbm, ⟨47, _⟩ => ⟨S8x16x2048x2048, .f32⟩
  | .hbm, ⟨48, _⟩ => ⟨S8x16x2048x2048, .f32⟩
  | .hbm, ⟨49, _⟩ => ⟨S8x16x2048x2048, .f32⟩
  | .hbm, ⟨50, _⟩ => ⟨S8x16x2048x2048, .f32⟩
  | .hbm, ⟨51, _⟩ => ⟨S8x16x2048x2048, .f32⟩
  | .hbm, ⟨52, _⟩ => ⟨S8x16x2048x2048, .f32⟩
  | .hbm, ⟨53, _⟩ => ⟨S8x16x2048x2048, .f32⟩
  | .hbm, ⟨54, _⟩ => ⟨S8x16x2048x2048, .f32⟩
  | .hbm, ⟨55, _⟩ => ⟨S8x16x2048x2048, .f32⟩
  | .hbm, ⟨56, _⟩ => ⟨S8x16x2048x2048, .f32⟩
  | .hbm, ⟨57, _⟩ => ⟨S_, .f32⟩
  | .hbm, ⟨58, _⟩ => ⟨S_, .f32⟩
  | .hbm, ⟨59, _⟩ => ⟨S8x16x2048x2048, .i1⟩
  | .hbm, ⟨60, _⟩ => ⟨S8x16x2048x2048, .f32⟩
  | .hbm, ⟨61, _⟩ => ⟨S8x16x2048x2048, .f32⟩
  | .hbm, ⟨62, _⟩ => ⟨S8x16x64x2048, .f32⟩
  | .hbm, ⟨63, _⟩ => ⟨S8x2048x16x64, .f32⟩
  | .hbm, ⟨64, _⟩ => ⟨S16384x1024, .f32⟩
  | .hbm, ⟨65, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v13 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_call2_cst : Ref sig .tc := ⟨.hbm, 35, rfl⟩
abbrev main_call2_v0 : Ref sig .tc := ⟨.hbm, 36, rfl⟩
abbrev main_v15 : Ref sig .tc := ⟨.hbm, 37, rfl⟩
abbrev main_v16 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_0 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩

abbrev nD : Nat := 1
abbrev τ : Topo := Topo.v7x

variable {F : FTy → Type} [FloatOps F]
-- ==== Tail.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩

abbrev nBuf : Space → Nat
  | .hbm => 17
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== TailReferenceIdeal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x4096, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S1x1024, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Proj.lean ====
abbrev S8x2048x1024 : Shape := ⟨3, ![8, 2048, 1024]⟩
abbrev S1x1024x3072 : Shape := ⟨3, ![1, 1024, 3072]⟩
abbrev S16384x1024 : Shape := ⟨2, ![16384, 1024]⟩
abbrev S1024x3072 : Shape := ⟨2, ![1024, 3072]⟩
abbrev S1024x1024 : Shape := ⟨2, ![1024, 1024]⟩
abbrev S1024x2048 : Shape := ⟨2, ![1024, 2048]⟩
abbrev S2048x1024 : Shape := ⟨2, ![2048, 1024]⟩
abbrev S8x2048x2048 : Shape := ⟨3, ![8, 2048, 2048]⟩
abbrev S8x1024x2048 : Shape := ⟨3, ![8, 1024, 2048]⟩
abbrev S256x1024 : Shape := ⟨2, ![256, 1024]⟩
abbrev S1x2048x256 : Shape := ⟨3, ![1, 2048, 256]⟩
abbrev S1x1024x256 : Shape := ⟨3, ![1, 1024, 256]⟩
abbrev S2048x256 : Shape := ⟨2, ![2048, 256]⟩
abbrev S1024x256 : Shape := ⟨2, ![1024, 256]⟩

abbrev nBuf : Space → Nat
  | .hbm => 13
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1x1024x3072, .f32⟩
  | .hbm, ⟨2, _⟩ => ⟨S16384x1024, .f32⟩
  | .hbm, ⟨3, _⟩ => ⟨S1024x3072, .f32⟩
  | .hbm, ⟨4, _⟩ => ⟨S1024x3072, .bf16⟩
  | .hbm, ⟨5, _⟩ => ⟨S1024x1024, .bf16⟩
  | .hbm, ⟨6, _⟩ => ⟨S1024x2048, .bf16⟩
  | .hbm, ⟨7, _⟩ => ⟨S1024x1024, .bf16⟩
  | .hbm, ⟨8, _⟩ => ⟨S2048x1024, .bf16⟩
  | .hbm, ⟨9, _⟩ => ⟨S16384x1024, .bf16⟩
  | .hbm, ⟨10, _⟩ => ⟨S16384x1024, .bf16⟩
  | .hbm, ⟨11, _⟩ => ⟨S8x2048x2048, .f32⟩
  | .hbm, ⟨12, _⟩ => ⟨S8x1024x2048, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S1x2048x256, .f32⟩
  | .local _ .vmem, ⟨10, _⟩ => ⟨S1x2048x256, .f32⟩
  | .local _ .vmem, ⟨11, _⟩ => ⟨S1x1024x256, .bf16⟩
  | .local _ .vmem, ⟨12, _⟩ => ⟨S1x1024x256, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev main_v7_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjReferenceIdeal.lean ====
abbrev S8x2048x1024 : Shape := ⟨3, ![8, 2048, 1024]⟩
abbrev S1x1024x3072 : Shape := ⟨3, ![1, 1024, 3072]⟩
abbrev S1024x3072 : Shape := ⟨2, ![1024, 3072]⟩
abbrev S8x2048x3072 : Shape := ⟨3, ![8, 2048, 3072]⟩
abbrev S8x1024x2048 : Shape := ⟨3, ![8, 1024, 2048]⟩
abbrev S_ : Shape := ⟨0, ![]⟩
abbrev S16384x1024 : Shape := ⟨2, ![16384, 1024]⟩
abbrev S8x2048x2048 : Shape := ⟨3, ![8, 2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024x3072, .f32⟩
  | .hbm, ⟨2, _⟩ => ⟨S1024x3072, .f32⟩
  | .hbm, ⟨3, _⟩ => ⟨S8x2048x3072, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x1024x2048, .f32⟩
  | .hbm, ⟨8, _⟩ => ⟨S8x1024x2048, .f32⟩
  | .hbm, ⟨9, _⟩ => ⟨S_, .f32⟩
  | .hbm, ⟨10, _⟩ => ⟨S8x2048x1024, .f32⟩
  | .hbm, ⟨11, _⟩ => ⟨S8x2048x1024, .f32⟩
  | .hbm, ⟨12, _⟩ => ⟨S8x2048x1024, .bf16⟩
  | .hbm, ⟨13, _⟩ => ⟨S16384x1024, .bf16⟩
  | .hbm, ⟨14, _⟩ => ⟨S8x2048x1024, .bf16⟩
  | .hbm, ⟨15, _⟩ => ⟨S16384x1024, .bf16⟩
  | .hbm, ⟨16, _⟩ => ⟨S8x2048x2048, .f32⟩
  | .hbm, ⟨17, _⟩ => ⟨S8x1024x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Rows.lean ====
abbrev S32x1x1024 : Shape := ⟨3, ![32, 1, 1024]⟩
abbrev S1x1024x3072 : Shape := ⟨3, ![1, 1024, 3072]⟩
abbrev S32x1024 : Shape := ⟨2, ![32, 1024]⟩
abbrev S1024x3072 : Shape := ⟨2, ![1024, 3072]⟩
abbrev S1024x1024 : Shape := ⟨2, ![1024, 1024]⟩
abbrev S1024x2048 : Shape := ⟨2, ![1024, 2048]⟩
abbrev S32x2048 : Shape := ⟨2, ![32, 2048]⟩

abbrev nBuf : Space → Nat
  | .hbm => 9
  | .vmem => 5
  | .smem => 0
  | _ => 0

abbrev bufTy : (tb : Table) → Fin (tcTables nBuf tb) → BufTy
  | .hbm, ⟨0, _⟩ => ⟨S32x1x1024, .f32⟩
  | .hbm, ⟨1, _⟩ => ⟨S1x1024x3072, .f32⟩
  | .hbm, ⟨2, _⟩ => ⟨S32x1024, .f32⟩
  | .hbm, ⟨3, _⟩ => ⟨S1024x3072, .f32⟩
  | .hbm, ⟨4, _⟩ => ⟨S1024x3072, .bf16⟩
  | .hbm, ⟨5, _⟩ => ⟨S1024x1024, .bf16⟩
  | .hbm, ⟨6, _⟩ => ⟨S1024x2048, .bf16⟩
  | .hbm, ⟨7, _⟩ => ⟨S32x1024, .bf16⟩
  | .hbm, ⟨8, _⟩ => ⟨S32x2048, .f32⟩
  | .local _ .vmem, ⟨0, _⟩ => ⟨S32x1024, .f32⟩
  | .local _ .vmem, ⟨1, _⟩ => ⟨S1024x1024, .bf16⟩
  | .local _ .vmem, ⟨2, _⟩ => ⟨S1024x2048, .bf16⟩
  | .local _ .vmem, ⟨3, _⟩ => ⟨S32x1024, .bf16⟩
  | .local _ .vmem, ⟨4, _⟩ => ⟨S32x2048, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== RowsReferenceIdeal.lean ====
abbrev S32x1x1024 : Shape := ⟨3, ![32, 1, 1024]⟩
abbrev S1x1024x3072 : Shape := ⟨3, ![1, 1024, 3072]⟩
abbrev S1024x3072 : Shape := ⟨2, ![1024, 3072]⟩
abbrev S32x1x3072 : Shape := ⟨3, ![32, 1, 3072]⟩
abbrev S32x1x2048 : Shape := ⟨3, ![32, 1, 2048]⟩
abbrev S_ : Shape := ⟨0, ![]⟩
abbrev S32x1024 : Shape := ⟨2, ![32, 1024]⟩
abbrev S32x2048 : Shape := ⟨2, ![32, 2048]⟩

abbrev nBuf : Space → Nat
  | .hbm => 14
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024x3072, .f32⟩
  | .hbm, ⟨2, _⟩ => ⟨S1024x3072, .f32⟩
  | .hbm, ⟨3, _⟩ => ⟨S32x1x3072, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S32x1x2048, .f32⟩
  | .hbm, ⟨8, _⟩ => ⟨S_, .f32⟩
  | .hbm, ⟨9, _⟩ => ⟨S32x1x1024, .f32⟩
  | .hbm, ⟨10, _⟩ => ⟨S32x1x1024, .f32⟩
  | .hbm, ⟨11, _⟩ => ⟨S32x1x1024, .bf16⟩
  | .hbm, ⟨12, _⟩ => ⟨S32x1024, .bf16⟩
  | .hbm, ⟨13, _⟩ => ⟨S32x2048, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== NsaProj.lean ====
abbrev S16384x1024 : Shape := ⟨2, ![16384, 1024]⟩
abbrev S1x1024x2608 : Shape := ⟨3, ![1, 1024, 2608]⟩
abbrev S1024x2608 : Shape := ⟨2, ![1024, 2608]⟩
abbrev S1024x1024 : Shape := ⟨2, ![1024, 1024]⟩
abbrev S1024x1536 : Shape := ⟨2, ![1024, 1536]⟩
abbrev S1024x48 : Shape := ⟨2, ![1024, 48]⟩
abbrev S1024x512 : Shape := ⟨2, ![1024, 512]⟩
abbrev S1024x3x2x8 : Shape := ⟨4, ![1024, 3, 2, 8]⟩
abbrev S1024x2x3x8 : Shape := ⟨4, ![1024, 2, 3, 8]⟩
abbrev S1024x2x24 : Shape := ⟨3, ![1024, 2, 24]⟩
abbrev S_ : Shape := ⟨0, ![]⟩
abbrev S1024x2x128 : Shape := ⟨3, ![1024, 2, 128]⟩
abbrev S1024x256 : Shape := ⟨2, ![1024, 256]⟩
abbrev S1536x1024 : Shape := ⟨2, ![1536, 1024]⟩
abbrev S16384x512 : Shape := ⟨2, ![16384, 512]⟩
abbrev S16384x256 : Shape := ⟨2, ![16384, 256]⟩
abbrev S8x512x2048 : Shape := ⟨3, ![8, 512, 2048]⟩
abbrev S256x1024 : Shape := ⟨2, ![256, 1024]⟩
abbrev S256x512 : Shape := ⟨2, ![256, 512]⟩
abbrev S256x256 : Shape := ⟨2, ![256, 256]⟩
abbrev S1x512x256 : Shape := ⟨3, ![1, 512, 256]⟩
abbrev S1536x256 : Shape := ⟨2, ![1536, 256]⟩
abbrev S512x256 : Shape := ⟨2, ![512, 256]⟩

abbrev nBuf : Space → Nat
  | .hbm => 26
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1x1024x2608, .f32⟩
  | .hbm, ⟨2, _⟩ => ⟨S1024x2608, .f32⟩
  | .hbm, ⟨3, _⟩ => ⟨S1024x2608, .bf16⟩
  | .hbm, ⟨4, _⟩ => ⟨S1024x1024, .bf16⟩
  | .hbm, ⟨5, _⟩ => ⟨S1024x1536, .bf16⟩
  | .hbm, ⟨6, _⟩ => ⟨S1024x2608, .f32⟩
  | .hbm, ⟨7, _⟩ => ⟨S1024x48, .f32⟩
  | .hbm, ⟨8, _⟩ => ⟨S1024x512, .bf16⟩
  | .hbm, ⟨9, _⟩ => ⟨S1024x3x2x8, .f32⟩
  | .hbm, ⟨10, _⟩ => ⟨S1024x2x3x8, .f32⟩
  | .hbm, ⟨11, _⟩ => ⟨S1024x2x24, .f32⟩
  | .hbm, ⟨12, _⟩ => ⟨S_, .i32⟩
  | .hbm, ⟨13, _⟩ => ⟨S_, .f32⟩
  | .hbm, ⟨14, _⟩ => ⟨S1024x2x128, .f32⟩
  | .hbm, ⟨15, _⟩ => ⟨S1024x256, .f32⟩
  | .hbm, ⟨16, _⟩ => ⟨S1024x256, .bf16⟩
  | .hbm, ⟨17, _⟩ => ⟨S1536x1024, .bf16⟩
  | .hbm, ⟨18, _⟩ => ⟨S16384x1024, .bf16⟩
  | .hbm, ⟨19, _⟩ => ⟨S16384x512, .f32⟩
  | .hbm, ⟨20, _⟩ => ⟨S16384x256, .f32⟩
  | .hbm, ⟨21, _⟩ => ⟨S8x512x2048, .f32⟩
  | .hbm, ⟨22, _⟩ => ⟨S8x512x2048, .f32⟩
  | .hbm, ⟨23, _⟩ => ⟨S8x512x2048, .f32⟩
  | .hbm, ⟨24, _⟩ => ⟨S8x512x2048, .bf16⟩
  | .hbm, ⟨25, _⟩ => ⟨S8x512x2048, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x512, .bf16⟩
  | .local _ .vmem, ⟨4, _⟩ => ⟨S1024x256, .bf16⟩
  | .local _ .vmem, ⟨5, _⟩ => ⟨S1536x1024, .bf16⟩
  | .local _ .vmem, ⟨6, _⟩ => ⟨S256x1024, .bf16⟩
  | .local _ .vmem, ⟨7, _⟩ => ⟨S256x1024, .bf16⟩
  | .local _ .vmem, ⟨8, _⟩ => ⟨S256x512, .f32⟩
  | .local _ .vmem, ⟨9, _⟩ => ⟨S256x512, .f32⟩
  | .local _ .vmem, ⟨10, _⟩ => ⟨S256x256, .f32⟩
  | .local _ .vmem, ⟨11, _⟩ => ⟨S256x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v14_3 : Ref sig .tc := ⟨.hbm, 21, rfl⟩
abbrev main_v14_4 : Ref sig .tc := ⟨.hbm, 22, rfl⟩
abbrev main_v14_5 : Ref sig .tc := ⟨.hbm, 23, rfl⟩
abbrev main_v14_6 : Ref sig .tc := ⟨.hbm, 24, rfl⟩
abbrev main_v14_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== NsaProjReferenceIdeal.lean ====
abbrev S16384x1024 : Shape := ⟨2, ![16384, 1024]⟩
abbrev S1x1024x2608 : Shape := ⟨3, ![1, 1024, 2608]⟩
abbrev S1024x2608 : Shape := ⟨2, ![1024, 2608]⟩
abbrev S16384x2608 : Shape := ⟨2, ![16384, 2608]⟩
abbrev S_ : Shape := ⟨0, ![]⟩
abbrev S16384x1536 : Shape := ⟨2, ![16384, 1536]⟩
abbrev S16384x512 : Shape := ⟨2, ![16384, 512]⟩
abbrev S16384x48 : Shape := ⟨2, ![16384, 48]⟩
abbrev S16384x3x2x8 : Shape := ⟨4, ![16384, 3, 2, 8]⟩
abbrev S16384x2x3x8 : Shape := ⟨4, ![16384, 2, 3, 8]⟩
abbrev S16384x2x24 : Shape := ⟨3, ![16384, 2, 24]⟩
abbrev S16384x2x128 : Shape := ⟨3, ![16384, 2, 128]⟩
abbrev S8x2048x512 : Shape := ⟨3, ![8, 2048, 512]⟩
abbrev S8x512x2048 : Shape := ⟨3, ![8, 512, 2048]⟩
abbrev S16384x256 : Shape := ⟨2, ![16384, 256]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x2608, .f32⟩
  | .hbm, ⟨2, _⟩ => ⟨S1024x2608, .f32⟩
  | .hbm, ⟨3, _⟩ => ⟨S16384x2608, .f32⟩
  | .hbm, ⟨4, _⟩ => ⟨S16384x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .bf16⟩
  | .hbm, ⟨9, _⟩ => ⟨S16384x1536, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x48, .f32⟩
  | .hbm, ⟨14, _⟩ => ⟨S16384x48, .f32⟩
  | .hbm, ⟨15, _⟩ => ⟨S16384x48, .f32⟩
  | .hbm, ⟨16, _⟩ => ⟨S_, .f32⟩
  | .hbm, ⟨17, _⟩ => ⟨S16384x48, .f32⟩
  | .hbm, ⟨18, _⟩ => ⟨S16384x48, .f32⟩
  | .hbm, ⟨19, _⟩ => ⟨S_, .f32⟩
  | .hbm, ⟨20, _⟩ => ⟨S16384x48, .f32⟩
  | .hbm, ⟨21, _⟩ => ⟨S16384x48, .f32⟩
  | .hbm, ⟨22, _⟩ => ⟨S16384x3x2x8, .f32⟩
  | .hbm, ⟨23, _⟩ => ⟨S16384x2x3x8, .f32⟩
  | .hbm, ⟨24, _⟩ => ⟨S16384x2x24, .f32⟩
  | .hbm, ⟨25, _⟩ => ⟨S_, .f32⟩
  | .hbm, ⟨26, _⟩ => ⟨S_, .f32⟩
  | .hbm, ⟨27, _⟩ => ⟨S16384x2x128, .f32⟩
  | .hbm, ⟨28, _⟩ => ⟨S8x2048x512, .f32⟩
  | .hbm, ⟨29, _⟩ => ⟨S8x512x2048, .f32⟩
  | .hbm, ⟨30, _⟩ => ⟨S8x2048x512, .f32⟩
  | .hbm, ⟨31, _⟩ => ⟨S8x512x2048, .f32⟩
  | .hbm, ⟨32, _⟩ => ⟨S8x2048x512, .f32⟩
  | .hbm, ⟨33, _⟩ => ⟨S8x512x2048, .f32⟩
  | .hbm, ⟨34, _⟩ => ⟨S16384x256, .f32⟩
  | .hbm, ⟨35, _⟩ => ⟨S8x512x2048, .bf16⟩
  | .hbm, ⟨36, _⟩ => ⟨S8x512x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_call0_v0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== NsaRows.lean ====
abbrev S32x1024 : Shape := ⟨2, ![32, 1024]⟩
abbrev S1x1024x2608 : Shape := ⟨3, ![1, 1024, 2608]⟩
abbrev S1024x2608 : Shape := ⟨2, ![1024, 2608]⟩
abbrev S1024x48 : Shape := ⟨2, ![1024, 48]⟩
abbrev S1024x1024 : Shape := ⟨2, ![1024, 1024]⟩
abbrev S1024x1536 : Shape := ⟨2, ![1024, 1536]⟩
abbrev S_ : Shape := ⟨0, ![]⟩
abbrev S1024x128 : Shape := ⟨2, ![1024, 128]⟩
abbrev S32x1536 : Shape := ⟨2, ![32, 1536]⟩
abbrev S32x128 : Shape := ⟨2, ![32, 128]⟩

abbrev nBuf : Space → Nat
  | .hbm => 15
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1x1024x2608, .f32⟩
  | .hbm, ⟨2, _⟩ => ⟨S1024x2608, .f32⟩
  | .hbm, ⟨3, _⟩ => ⟨S1024x2608, .bf16⟩
  | .hbm, ⟨4, _⟩ => ⟨S1024x2608, .f32⟩
  | .hbm, ⟨5, _⟩ => ⟨S1024x48, .f32⟩
  | .hbm, ⟨6, _⟩ => ⟨S1024x1024, .bf16⟩
  | .hbm, ⟨7, _⟩ => ⟨S1024x1536, .bf16⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S32x1024, .bf16⟩
  | .hbm, ⟨13, _⟩ => ⟨S32x1536, .f32⟩
  | .hbm, ⟨14, _⟩ => ⟨S32x128, .f32⟩
  | .local _ .vmem, ⟨0, _⟩ => ⟨S32x1024, .f32⟩
  | .local _ .vmem, ⟨1, _⟩ => ⟨S1024x1024, .bf16⟩
  | .local _ .vmem, ⟨2, _⟩ => ⟨S1024x1536, .bf16⟩
  | .local _ .vmem, ⟨3, _⟩ => ⟨S1024x128, .bf16⟩
  | .local _ .vmem, ⟨4, _⟩ => ⟨S32x1024, .bf16⟩
  | .local _ .vmem, ⟨5, _⟩ => ⟨S32x1536, .f32⟩
  | .local _ .vmem, ⟨6, _⟩ => ⟨S32x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== NsaRowsReferenceIdeal.lean ====
abbrev S32x1024 : Shape := ⟨2, ![32, 1024]⟩
abbrev S1x1024x2608 : Shape := ⟨3, ![1, 1024, 2608]⟩
abbrev S1024x2608 : Shape := ⟨2, ![1024, 2608]⟩
abbrev S32x2608 : Shape := ⟨2, ![32, 2608]⟩
abbrev S32x48 : Shape := ⟨2, ![32, 48]⟩
abbrev S_ : Shape := ⟨0, ![]⟩
abbrev S32x128 : Shape := ⟨2, ![32, 128]⟩
abbrev S32x1536 : Shape := ⟨2, ![32, 1536]⟩

abbrev nBuf : Space → Nat
  | .hbm => 22
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x1024x2608, .f32⟩
  | .hbm, ⟨2, _⟩ => ⟨S1024x2608, .f32⟩
  | .hbm, ⟨3, _⟩ => ⟨S32x2608, .f32⟩
  | .hbm, ⟨4, _⟩ => ⟨S32x48, .f32⟩
  | .hbm, ⟨5, _⟩ => ⟨S32x48, .f32⟩
  | .hbm, ⟨6, _⟩ => ⟨S32x48, .f32⟩
  | .hbm, ⟨7, _⟩ => ⟨S_, .f32⟩
  | .hbm, ⟨8, _⟩ => ⟨S32x48, .f32⟩
  | .hbm, ⟨9, _⟩ => ⟨S32x48, .f32⟩
  | .hbm, ⟨10, _⟩ => ⟨S_, .f32⟩
  | .hbm, ⟨11, _⟩ => ⟨S32x48, .f32⟩
  | .hbm, ⟨12, _⟩ => ⟨S32x48, .f32⟩
  | .hbm, ⟨13, _⟩ => ⟨S_, .f32⟩
  | .hbm, ⟨14, _⟩ => ⟨S_, .f32⟩
  | .hbm, ⟨15, _⟩ => ⟨S32x128, .f32⟩
  | .hbm, ⟨16, _⟩ => ⟨S32x1024, .f32⟩
  | .hbm, ⟨17, _⟩ => ⟨S_, .f32⟩
  | .hbm, ⟨18, _⟩ => ⟨S32x1024, .f32⟩
  | .hbm, ⟨19, _⟩ => ⟨S32x1024, .f32⟩
  | .hbm, ⟨20, _⟩ => ⟨S32x1024, .bf16⟩
  | .hbm, ⟨21, _⟩ => ⟨S32x1536, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.AttTrip.lean ====
/- What one trip of the attention's loop over pairs of key tiles yields and stores. -/
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Att

open Cert.KernelIdeal Cert.KernelIdeal.Gen

/-- A tile's scores less the running sums of their softplus: queries `q`, keys `k`, the triangular table `u`. -/
def dif (u : Vec Ideal S512x256 .bf16) (q : FVec Ideal S256x128 .bf16) (k : Vec Ideal S1x128x256 .bf16) : FVec Ideal S256x256 .f32 :=
  k0_pay23 u (k0_pay20 q k) (k0_pay21 q k)

/-- A tile's whole softplus sum, row by row. -/
def col (u : Vec Ideal S512x256 .bf16) (q : FVec Ideal S256x128 .bf16) (k : Vec Ideal S1x128x256 .bf16) : FVec Ideal S256x1 .f32 :=
  k0_pay24 u (k0_pay21 q k)

/-- The accumulator after a tile: `a` plus the weights `exp (d − suf)` times the values. -/
def acc (suf : FVec Ideal S256x1 .f32) (v : Vec Ideal S256x128 .bf16) (d : FVec Ideal S256x256 .f32) (a : Vec Ideal S1x256x128 .f32) :
    FVec Ideal S1x256x128 .f32 :=
  k0_pay25 suf v d a

/-- The place of the first head's accumulator. -/
abbrev head0 : Rect S2x256x128 := Rect.unit ![0, 0, 0] S1x256x128.size inb_S2x256x128_S1x256x128_0_0_0

/-- The place of the second head's accumulator. -/
abbrev head1 : Rect S2x256x128 := Rect.unit ![1, 0, 0] S1x256x128.size inb_S2x256x128_S1x256x128_1_0_0

section
variable (c : Dev nD) (i : grid0.Coords) (arg3 : Memref sig .tc .vmem S256x128 .bf16) (harg3 : arg3.IsWhole)
  (arg4 : Memref sig .tc .vmem S1x128x2048 .bf16) (harg4 : arg4.IsWhole) (arg5 : Memref sig .tc .vmem S2048x128 .bf16) (harg5 : arg5.IsWhole)
  (arg6 : Memref sig .tc .vmem S512x256 .bf16) (harg6 : arg6.IsWhole) (arg7 : Memref sig .tc .vmem S256x128 .bf16) (harg7 : arg7.IsWhole)
  (arg8 : Memref sig .tc .vmem S2x256x128 .f32) (harg8 : arg8.IsWhole) (arg2 : BitVec 32) (v5 : Vec Ideal S256x128 .bf16)
  (v6 : FVec Ideal S256x128 .bf16) (v7 : Vec Ideal S512x256 .bf16) (v10 : IVec S256x256 1) (v15 : FVec Ideal S256x1 .f32)
  (v22 : Vec Ideal S256x128 .bf16) (v63 : FVec Ideal S256x256 .f32) (v64 : FVec Ideal S256x1 .f32) (v78 : FVec Ideal S256x1 .f32)
  (X4 : BufTy.Contents (Elt Ideal) arg4.view.ty) (X5 : BufTy.Contents (Elt Ideal) arg5.view.ty) (k : Fin (k0_t1_loop i).trips)

/-- The keys of the trip's first tile. -/
abbrev keys1 : Vec Ideal S1x128x256 .bf16 :=
  View.ld (arg4.view.read (Elt Ideal) X4) (Rect.unit (s := S1x128x2048) (k0_off3 i k 1#32) S1x128x256.size (k0_off3_inb i k 0))

/-- The keys of the trip's second tile. -/
abbrev keys2 : Vec Ideal S1x128x256 .bf16 :=
  View.ld (arg4.view.read (Elt Ideal) X4) (Rect.unit (s := S1x128x2048) (k0_off3 i k 2#32) S1x128x256.size (k0_off3_inb i k 1))

/-- The values of the trip's first tile. -/
abbrev vals1 : Vec Ideal S256x128 .bf16 :=
  View.ld (arg5.view.read (Elt Ideal) X5) (Rect.unit (s := S2048x128) (k0_off4 i k 1#32) S256x128.size (k0_off4_inb i k 0))

/-- The values of the trip's second tile. -/
abbrev vals2 : Vec Ideal S256x128 .bf16 :=
  View.ld (arg5.view.read (Elt Ideal) X5) (Rect.unit (s := S2048x128) (k0_off4 i k 2#32) S256x128.size (k0_off4_inb i k 1))

/-- The running sums a trip yields: the carried ones plus the two tiles' sums. -/
theorem tripR_eq (s : FVec Ideal S256x1 .f32 × FVec Ideal S256x1 .f32) (f : BufTy.Contents (Elt Ideal) arg8.view.ty) :
    tripR_k0_t1 (F := Ideal) Variants.none c none i arg3 harg3 arg4 harg4 arg5 harg5 arg6 harg6 arg7 harg7 arg8 harg8 arg2 v5 v6 v7 v10 v15 v22 v63 v64 v78 X4 X5 k s f
      = (addf (addf s.1 (col v7 v5 (keys1 i arg4 X4 k))) (col v7 v5 (keys2 i arg4 X4 k)),
         addf (addf s.2 (col v7 v6 (keys1 i arg4 X4 k))) (col v7 v6 (keys2 i arg4 X4 k))) := by
  unfold tripR_k0_t1 trip_k0_t1
  rfl

/-- The pieces a trip stores: each head's accumulator after the first tile, then after the second. -/
theorem tripL_eq (s : FVec Ideal S256x1 .f32 × FVec Ideal S256x1 .f32) (f : BufTy.Contents (Elt Ideal) arg8.view.ty) :
    tripL_k0_t1 (F := Ideal) Variants.none c none i arg3 harg3 arg4 harg4 arg5 harg5 arg6 harg6 arg7 harg7 arg8 harg8 arg2 v5 v6 v7 v10 v15 v22 v63 v64 v78 X4 X5 k s f
      = (have a0 := acc s.1 (vals1 i arg5 X5 k) (dif v7 v5 (keys1 i arg4 X4 k)) (View.ld (arg8.view.read (Elt Ideal) f) head0)
         have a1 := acc s.2 (vals1 i arg5 X5 k) (dif v7 v6 (keys1 i arg4 X4 k)) (View.ld (arg8.view.read (Elt Ideal) f) head1)
         have b0 := acc (addf s.1 (col v7 v5 (keys1 i arg4 X4 k))) (vals2 i arg5 X5 k) (dif v7 v5 (keys2 i arg4 X4 k))
           (arg8.view.readCov [⟨head1, a1⟩, ⟨head0, a0⟩] head0.toLoadRect)
         have b1 := acc (addf s.2 (col v7 v6 (keys1 i arg4 X4 k))) (vals2 i arg5 X5 k) (dif v7 v6 (keys2 i arg4 X4 k))
           (arg8.view.readCov [⟨head0, b0⟩, ⟨head1, a1⟩, ⟨head0, a0⟩] head1.toLoadRect)
         [⟨head1, b1⟩, ⟨head0, b0⟩, ⟨head1, a1⟩, ⟨head0, a0⟩]) := by
  unfold tripL_k0_t1 trip_k0_t1
  rfl

end

end Cert.KernelIdeal.Att

end
-- ==== Proof.AttMath.lean ====
/- The stick-breaking weights over the real numbers, and the sums that the key tiles contribute to them. -/
module

public import Idealize.ShloMosaic.PureOps.Ideal
public import Idealize.ShloMosaic.PureOps.Ideal.Laws
public import Idealize.ShloMosaic.Lib.Pointwise
public import Mathlib.Algebra.BigOperators.Intervals

@[expose] public section

noncomputable section

open Idealize.ShloMosaic

namespace Cert.Att

/-- `log (1 + exp x)`. -/
def sp (x : ℝ) : ℝ := Real.log (1 + Real.exp x)

/-- The softplus of the scores at the positions from `B` up to, not including, `T`. -/
def run (z : ℕ → ℝ) (B T : ℕ) : ℝ := ∑ s ∈ Finset.Ico B T, sp (z s)

/-- The weight of position `s` for a query at position `T`. -/
def wt (z : ℕ → ℝ) (T s : ℕ) : ℝ := Real.exp (z s - run z s T)

/-- The weighted values at the positions from `B` up to, not including, `T`. -/
def out (z : ℕ → ℝ) (v : ℕ → EReal) (B T : ℕ) : EReal := ∑ s ∈ Finset.Ico B T, (wt z T s : EReal) * v s

/-- The softplus does not change when it is computed from the absolute value. -/
theorem sp_abs (x : ℝ) : max x 0 + Real.log (1 + Real.exp (-|x|)) = sp x := by
  unfold sp
  rcases le_total 0 x with h | h
  · rw [max_eq_left h, abs_of_nonneg h]
    have e : 1 + Real.exp x = Real.exp x * (1 + Real.exp (-x)) := by
      rw [mul_add, ← Real.exp_add]; simp [add_comm]
    rw [e, Real.log_mul (Real.exp_pos _).ne' (by positivity), Real.log_exp]
  · rw [max_eq_right h, abs_of_nonpos h]; simp

/-- The softplus of `−x`. -/
theorem sp_neg (x : ℝ) : sp (-x) = sp x - x := by
  rw [← sp_abs, ← sp_abs, abs_neg]
  rcases le_total 0 x with h | h
  · rw [max_eq_left h, max_eq_right (by linarith)]; ring
  · rw [max_eq_right h, max_eq_left (by linarith)]; ring

/-- The greatest of two reals, read in the extended reals. -/
theorem coe_max' (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- The logarithm of `1 + exp y`, read in the extended reals. -/
theorem log_one_add_exp (y : ℝ) : Ideal.log (1 + (Real.exp y : EReal)) = ((Real.log (1 + Real.exp y) : ℝ) : EReal) := by
  rw [← EReal.coe_one, ← EReal.coe_add, Ideal.log_coe, if_neg (by have := Real.exp_pos y; linarith)]

/-- The kernel's softplus: a power of two stands for the exponential. -/
theorem softplus_kernel (x : ℝ) :
    max (x : EReal) 0 + Ideal.log (1 + Ideal.exp2 (max (x : EReal) (-(x : EReal)) * ((-((Real.log 2)⁻¹) : ℝ) : EReal))) = (sp x : EReal) := by
  have e : (2 : ℝ) ^ (|x| * -(Real.log 2)⁻¹) = Real.exp (-|x|) := by
    rw [Real.rpow_def_of_pos (by norm_num)]
    congr 1
    have : Real.log 2 ≠ 0 := (Real.log_pos (by norm_num)).ne'
    field_simp
  rw [← EReal.coe_neg, coe_max', ← EReal.coe_mul, Ideal.exp2_coe, ← EReal.coe_zero, coe_max']
  change _ + Ideal.log (1 + (((2 : ℝ) ^ (max x (-x) * -(Real.log 2)⁻¹) : ℝ) : EReal)) = _
  rw [show max x (-x) = |x| from rfl, e, log_one_add_exp, ← EReal.coe_add, sp_abs]

/-- Reals summed in the extended reals. -/
theorem coe_sum' {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A tile's positions from `s` on and before `r`, as positions of the whole row: the tile begins at `B`. -/
theorem sum_tile {M : Type} [AddCommMonoid M] (f : ℕ → M) (B s r : ℕ) (hr : r ≤ 256) :
    (∑ x : Fin 256, if s ≤ x.val then (if x.val < r then f (B + x.val) else 0) else 0) = ∑ n ∈ Finset.Ico (B + s) (B + r), f n := by
  rw [Fin.sum_univ_eq_sum_range (fun n => if s ≤ n then (if n < r then f (B + n) else 0) else 0) 256, add_comm B s, add_comm B r,
    ← Finset.sum_Ico_add f s r B]
  have e : Finset.Ico s r = (Finset.range 256).filter (fun n => s ≤ n ∧ n < r) := by
    ext n; simp only [Finset.mem_Ico, Finset.mem_filter, Finset.mem_range]; omega
  rw [e, Finset.sum_filter]
  refine Finset.sum_congr rfl fun n _ => ?_
  by_cases h : s ≤ n <;> by_cases h' : n < r <;> simp [h, h']

/-- A row's product with the triangular table, twice over: the second half, a number less itself, adds nothing. -/
theorem cum_tile (p : Fin 256 → ℝ) (P : Fin 256 → EReal) (hP : ∀ x, P x = (p x : EReal)) (u : Fin 512 → Fin 256 → EReal)
    (hu : ∀ x s, u x s = if s.val ≤ x.val % 256 then 1 else 0) (s : Fin 256) :
    (∑ x : Fin 512, (if h : x.val < 256 then P ⟨x.val, h⟩ else P ⟨x.val - 256, by omega⟩ - P ⟨x.val - 256, by omega⟩) * u x s)
      = ((∑ x : Fin 256, if s.val ≤ x.val then p x else 0 : ℝ) : EReal) := by
  refine (Fin.sum_univ_add (a := 256) (b := 256) _).trans ?_
  have h2 : ∀ x : Fin 256, (if h : (Fin.natAdd 256 x : Fin 512).val < 256 then P ⟨(Fin.natAdd 256 x : Fin 512).val, h⟩
      else P ⟨(Fin.natAdd 256 x : Fin 512).val - 256, by omega⟩ - P ⟨(Fin.natAdd 256 x : Fin 512).val - 256, by omega⟩)
        * u (Fin.natAdd 256 x) s = 0 := by
    intro x
    rw [dif_neg (by simp), hP, ← EReal.coe_sub, sub_self, EReal.coe_zero, zero_mul]
  rw [Finset.sum_congr rfl fun x _ => h2 x, Finset.sum_const_zero, add_zero, coe_sum']
  refine Finset.sum_congr rfl fun x _ => ?_
  rw [dif_pos (by simp [x.isLt]), hu]
  have e : (Fin.castAdd 256 x : Fin 512).val % 256 = x.val := by simp [Nat.mod_eq_of_lt x.isLt]
  rw [e]
  by_cases h : s.val ≤ x.val
  · simp only [h, if_true, mul_one]; exact hP x
  · simp only [h, if_false, mul_zero, EReal.coe_zero]

/-- The sums over adjacent ranges add up. -/
theorem run_add (z : ℕ → ℝ) {B M T : ℕ} (h : B ≤ M) (h' : M ≤ T) : run z B M + run z M T = run z B T :=
  Finset.sum_Ico_consecutive _ h h'

/-- The weighted values over adjacent ranges add up. -/
theorem out_add (z : ℕ → ℝ) (v : ℕ → EReal) {B M T : ℕ} (h : B ≤ M) (h' : M ≤ T) :
    out z v M T + ∑ s ∈ Finset.Ico B M, (wt z T s : EReal) * v s = out z v B T := by
  rw [add_comm]; exact Finset.sum_Ico_consecutive _ h h'

/-- The weight of a position of a tile that lies wholly before the query. -/
theorem wt_tile (z : ℕ → ℝ) {B T s : ℕ} (hs : s ≤ 256) (h : B + 256 ≤ T) :
    Ideal.exp ((z (B + s) : EReal) - (run z (B + s) (B + 256) : EReal) - (run z (B + 256) T : EReal)) = (wt z T (B + s) : EReal) := by
  rw [← EReal.coe_sub, ← EReal.coe_sub, Ideal.exp_coe, sub_sub, run_add z (by omega) h]
  rfl

end Cert.Att

end
-- ==== Proof.AttTile.lean ====
/- What one tile of keys does to a head's running sums and to its accumulator. -/
module

public import proofs.«01_k».proof.Proof.AttTrip
public import proofs.«01_k».proof.Proof.AttMath
public import Idealize.ShloMosaic.PureOps.IdealRules
public import Idealize.ShloMosaic.Lib.WordCmp

@[expose] public section

set_option maxRecDepth 16384

noncomputable section

open Idealize.ShloMosaic Idealize.ShloMosaic.TcCoe Idealize.SL.Sem

namespace Cert.KernelIdeal.Att

open Cert.KernelIdeal Cert.KernelIdeal.Gen Cert.Att

/-! ## The body's values at an index -/

/-- A tile's scores. -/
theorem pay20_apply (q : FVec Ideal S256x128 .bf16) (k : Vec Ideal S1x128x256 .bf16) (r s : Fin 256) :
    k0_pay20 q k (ix2 r s) = ∑ e : Fin 128, q (ix2 r e) * k (ix3 0 e s) := by
  pointwise [k0_pay20, k0_pay15]

/-- The named constant is `−1 / log 2`. -/
theorem neg_log2_e : (Named.named κ "neg_log2_e" 0xBFB8AA3B#32 : Ideal .f32) = ((-((Real.log 2)⁻¹) : ℝ) : EReal) :=
  IdealRules.named_const.ideal_named_scalar _ _ _ _ rfl

/-- The softplus of a tile's real scores. -/
theorem pay21_apply (q : FVec Ideal S256x128 .bf16) (k : Vec Ideal S1x128x256 .bf16) (r s : Fin 256) (x : ℝ)
    (h : k0_pay20 q k (ix2 r s) = (x : EReal)) : k0_pay21 q k (ix2 r s) = (sp x : EReal) := by
  unfold k0_pay21
  revert h
  generalize k0_pay20 q k = z
  intro h
  pointwise []
  rw [h, neg_log2_e]
  exact softplus_kernel x

/-- The running sums within a tile, as the product with the table. -/
theorem pay22_apply (u : Vec Ideal S512x256 .bf16) (p : FVec Ideal S256x256 .f32) (r s : Fin 256) :
    k0_pay22 u p (ix2 r s) = ∑ x : Fin 512, (if h : x.val < 256 then p (ix2 r ⟨x.val, h⟩) else
      p (ix2 r ⟨x.val - 256, by omega⟩) - p (ix2 r ⟨x.val - 256, by omega⟩)) * u (ix2 x s) := by
  pointwise [k0_pay22]

/-- The scores less the running sums. -/
theorem pay23_apply (u : Vec Ideal S512x256 .bf16) (z p : FVec Ideal S256x256 .f32) (r s : Fin 256) :
    k0_pay23 u z p (ix2 r s) = z (ix2 r s) - k0_pay22 u p (ix2 r s) := by
  unfold k0_pay23
  generalize k0_pay22 u p = w
  pointwise []

/-- A tile's whole sum is the running sum at its first position. -/
theorem pay24_apply (u : Vec Ideal S512x256 .bf16) (p : FVec Ideal S256x256 .f32) (r : Fin 256) :
    k0_pay24 u p (ix2 r 0) = k0_pay22 u p (ix2 r 0) := by
  unfold k0_pay24
  generalize k0_pay22 u p = w
  pointwise []

/-- The accumulator after a tile. -/
theorem pay25_apply (suf : FVec Ideal S256x1 .f32) (v : Vec Ideal S256x128 .bf16) (d : FVec Ideal S256x256 .f32)
    (a : Vec Ideal S1x256x128 .f32) (r : Fin 256) (j : Fin 128) :
    k0_pay25 suf v d a (ix3 0 r j) = a (ix3 0 r j) + ∑ s : Fin 256, (Ideal.exp (d (ix2 r s) - suf (ix2 r 0))) * v (ix2 s j) := by
  pointwise [k0_pay25]

/-- The mask of the diagonal tile, at a position. -/
theorem pay65_apply (r s : Fin 256) : k0_pay65 (ix2 r s) = if s.val < r.val then 1#1 else 0#1 := by
  pointwise [k0_pay65]
  rw [WordCmp.cmpi_slt_ofNat (by omega) (by omega)]
  by_cases h : s.val < r.val <;> simp [h]

/-- The mask of the first head's lanes, at a position. -/
theorem pay61_apply (r : Fin 256) (e : Fin 128) : k0_pay61 (ix2 r e) = if e.val < 64 then 1#1 else 0#1 := by
  pointwise [k0_pay61]
  rw [WordCmp.cmpi_slt_ofNat (by omega) (by omega)]
  by_cases h : e.val < 64 <;> simp [h]

/-- The accumulator after the diagonal tile: only the positions before the query count. -/
theorem pay78_apply (suf : FVec Ideal S256x1 .f32) (v : Vec Ideal S256x128 .bf16) (d : FVec Ideal S256x256 .f32)
    (a : Vec Ideal S1x256x128 .f32) (r : Fin 256) (j : Fin 128) :
    k0_pay78 k0_pay65 suf v d a (ix3 0 r j)
      = a (ix3 0 r j) + ∑ s : Fin 256, (if s.val < r.val then Ideal.exp (d (ix2 r s) - suf (ix2 r 0)) else 0) * v (ix2 s j) := by
  have e : ∀ s : Fin 256, k0_pay65 (ix2 r s) = if s.val < r.val then 1#1 else 0#1 := pay65_apply r
  revert e
  generalize k0_pay65 = g
  intro e
  pointwise [k0_pay78]
  congr 1
  refine Finset.sum_congr rfl fun s _ => ?_
  rw [e s]
  by_cases h : s.val < r.val <;> simp [h, Scalar.select]

/-- The first head's queries: the first half of the lanes. -/
theorem pay63_apply (q : Vec Ideal S256x128 .bf16) (r : Fin 256) (e : Fin 128) :
    k0_pay63 q (ix2 r e) = if e.val < 64 then q (ix2 r e) else 0 := by
  have h : k0_pay61 (ix2 r e) = if e.val < 64 then 1#1 else 0#1 := pay61_apply r e
  revert h
  unfold k0_pay63
  generalize k0_pay61 = g
  intro h
  pointwise [k0_pay62]
  rw [h]
  by_cases h' : e.val < 64 <;> simp [h', Scalar.select]

/-- The second head's queries: the second half of the lanes. -/
theorem pay64_apply (q : Vec Ideal S256x128 .bf16) (r : Fin 256) (e : Fin 128) :
    k0_pay64 q (ix2 r e) = if e.val < 64 then 0 else q (ix2 r e) := by
  have h : k0_pay61 (ix2 r e) = if e.val < 64 then 1#1 else 0#1 := pay61_apply r e
  revert h
  unfold k0_pay64
  generalize k0_pay61 = g
  intro h
  pointwise [k0_pay62]
  rw [h]
  by_cases h' : e.val < 64 <;> simp [h', Scalar.select]

/-- The stored block: the first head's lanes, then the second's. -/
theorem pay3_apply (a b : Vec Ideal S1x256x128 .f32) (r : Fin 256) (j : Fin 128) :
    k0_pay3 k0_pay61 a b (ix2 r j) = if j.val < 64 then a (ix3 0 r j) else b (ix3 0 r j) := by
  have h : k0_pay61 (ix2 r j) = if j.val < 64 then 1#1 else 0#1 := pay61_apply r j
  revert h
  generalize k0_pay61 = g
  intro h
  pointwise [k0_pay3]
  rw [h]
  by_cases h' : j.val < 64 <;> simp [h', Scalar.select]

/-- The masked softplus of the diagonal tile. -/
theorem pay70_apply (q : Vec Ideal S256x128 .bf16) (k : Vec Ideal S1x128x256 .bf16) (r s : Fin 256) :
    k0_pay70 q k (ix2 r s) = if s.val < r.val then k0_pay21 (k0_pay63 q) k (ix2 r s) else 0 := by
  have h := pay65_apply r s
  have e : k0_pay70 q k = select k0_pay65 (k0_pay21 (k0_pay63 q) k) (broadcast S256x256 (Scalar.ofBits .f32 0x00000000#32)) := rfl
  rw [e]
  revert h
  generalize k0_pay65 = g
  generalize k0_pay21 (k0_pay63 q) k = w
  intro h
  pointwise []
  rw [h]
  by_cases h' : s.val < r.val <;> simp [h', Scalar.select]

end Cert.KernelIdeal.Att

end
-- ==== Proof.AttStep.lean ====
/- The invariant of the attention's loop over key tiles, and what one tile does to it. -/
module

public import proofs.«01_k».proof.Proof.AttTile

@[expose] public section

set_option maxRecDepth 16384

noncomputable section

open Idealize.ShloMosaic Idealize.ShloMosaic.TcCoe Idealize.SL.Sem

namespace Cert.KernelIdeal.Att

open Cert.KernelIdeal Cert.KernelIdeal.Gen Cert.Att

/-- The score of a query row with the key at a position, as a real number (0 past the end of the keys). -/
def score (q : FVec Ideal S256x128 .bf16) (K : Vec Ideal S1x128x2048 .bf16) (r : Fin 256) (n : ℕ) : ℝ :=
  if h : n < 2048 then (∑ e : Fin 128, q (ix2 r e) * K (ix3 0 e ⟨n, h⟩)).toReal else 0

/-- A lane of the value at a position (0 past the end). -/
def value (V : Vec Ideal S2048x128 .bf16) (j : Fin 128) (n : ℕ) : EReal :=
  if h : n < 2048 then V (ix2 ⟨n, h⟩ j) else 0

/-- Every score of the block is a real number. -/
def RealScores (q : FVec Ideal S256x128 .bf16) (K : Vec Ideal S1x128x2048 .bf16) : Prop :=
  ∀ (r : Fin 256) (n : Fin 2048), (∑ e : Fin 128, q (ix2 r e) * K (ix3 0 e n) : EReal) = (score q K r n.val : EReal)

/-- The table the running sums are products with: two upper triangles of ones, one below the other. -/
def IsTable (u : Vec Ideal S512x256 .bf16) : Prop :=
  ∀ (x : Fin 512) (s : Fin 256), u (ix2 x s) = if s.val ≤ x.val % 256 then 1 else 0

/-- `k` holds the keys from position `B` on. -/
def KeysAt (K : Vec Ideal S1x128x2048 .bf16) (B : ℕ) (k : Vec Ideal S1x128x256 .bf16) : Prop :=
  ∀ (e : Fin 128) (s : Fin 256) (h : B + s.val < 2048), k (ix3 0 e s) = K (ix3 0 e ⟨B + s.val, h⟩)

/-- `v` holds the values from position `B` on. -/
def ValsAt (V : Vec Ideal S2048x128 .bf16) (B : ℕ) (v : Vec Ideal S256x128 .bf16) : Prop :=
  ∀ (s : Fin 256) (j : Fin 128) (h : B + s.val < 2048), v (ix2 s j) = V (ix2 ⟨B + s.val, h⟩ j)

/-- A head's state when the positions from `B` on have been read, for queries at the positions from `T` on: the sum of
    the softplus of the scores read, and the weighted values. -/
structure Inv (q : FVec Ideal S256x128 .bf16) (K : Vec Ideal S1x128x2048 .bf16) (V : Vec Ideal S2048x128 .bf16) (T B : ℕ)
    (s : FVec Ideal S256x1 .f32) (A : Fin 256 → Fin 128 → EReal) : Prop where
  sum : ∀ r, s (ix2 r 0) = (run (score q K r) B (T + r.val) : EReal)
  val : ∀ r j, A r j = out (score q K r) (value V j) B (T + r.val)

section
variable {q : FVec Ideal S256x128 .bf16} {K : Vec Ideal S1x128x2048 .bf16} {V : Vec Ideal S2048x128 .bf16} {u : Vec Ideal S512x256 .bf16}
  {k : Vec Ideal S1x128x256 .bf16} {v : Vec Ideal S256x128 .bf16} {T B : ℕ}

/-- A tile's scores are the scores at its positions. -/
theorem tile_score (hz : RealScores q K) (hk : KeysAt K B k) (hB : B + 256 ≤ 2048) (r s : Fin 256) :
    k0_pay20 q k (ix2 r s) = (score q K r (B + s.val) : EReal) := by
  rw [pay20_apply, ← hz r ⟨B + s.val, by omega⟩]
  exact Finset.sum_congr rfl fun e _ => by rw [hk e s (by omega)]

/-- A tile's softplus values. -/
theorem tile_sp (hz : RealScores q K) (hk : KeysAt K B k) (hB : B + 256 ≤ 2048) (r s : Fin 256) :
    k0_pay21 q k (ix2 r s) = (sp (score q K r (B + s.val)) : EReal) :=
  pay21_apply q k r s _ (tile_score hz hk hB r s)

/-- A tile's running sums, from a position to its end. -/
theorem tile_cum (hz : RealScores q K) (hk : KeysAt K B k) (hu : IsTable u) (hB : B + 256 ≤ 2048) (r s : Fin 256) :
    k0_pay22 u (k0_pay21 q k) (ix2 r s) = (run (score q K r) (B + s.val) (B + 256) : EReal) := by
  rw [pay22_apply]
  refine (cum_tile (fun x => sp (score q K r (B + x.val))) (fun x => k0_pay21 q k (ix2 r x)) (fun x => tile_sp hz hk hB r x)
    (fun x s => u (ix2 x s)) hu s).trans ?_
  congr 1
  refine Eq.trans ?_ (sum_tile (fun n => sp (score q K r n)) B s.val 256 le_rfl)
  exact Finset.sum_congr rfl fun x _ => by rw [if_pos x.isLt]

/-- A tile that lies before every query: the state after it. -/
theorem step (hz : RealScores q K) (hk : KeysAt K B k) (hv : ValsAt V B v) (hu : IsTable u) (hT : T ≤ 2048) (hB : B + 256 ≤ T)
    {s : FVec Ideal S256x1 .f32} {a : Vec Ideal S1x256x128 .f32}
    (h : Inv q K V T (B + 256) s fun r j => a (ix3 0 r j)) :
    Inv q K V T B (addf s (col u q k)) fun r j => acc s v (dif u q k) a (ix3 0 r j) := by
  constructor
  · intro r
    have e : col u q k (ix2 r 0) = (run (score q K r) B (B + 256) : EReal) := by
      rw [col, pay24_apply, tile_cum hz hk hu (by omega)]; rfl
    refine (show addf s (col u q k) (ix2 r 0) = s (ix2 r 0) + col u q k (ix2 r 0) from rfl).trans ?_
    rw [e, h.sum, ← EReal.coe_add, add_comm, run_add _ (by omega) (by omega)]
  · intro r j
    rw [acc, pay25_apply, h.val]
    refine Eq.trans ?_ (out_add (score q K r) (value V j) (B := B) (M := B + 256) (T := T + r.val) (by omega) (by omega))
    congr 1
    refine Eq.trans ?_ (sum_tile (fun n => (wt (score q K r) (T + r.val) n : EReal) * value V j n) B 0 256 le_rfl)
    refine Finset.sum_congr rfl fun x _ => ?_
    rw [if_pos (by omega), if_pos x.isLt, dif, pay23_apply, tile_score hz hk (by omega), tile_cum hz hk hu (by omega), h.sum,
      wt_tile _ (by omega) (by omega), hv x j (by omega), value, dif_pos (by omega)]

/-- The diagonal tile's softplus values: only the positions before the query count. -/
def maskSp (q : FVec Ideal S256x128 .bf16) (k : Vec Ideal S1x128x256 .bf16) : FVec Ideal S256x256 .f32 :=
  select k0_pay65 (k0_pay21 q k) (broadcast S256x256 (Scalar.ofBits .f32 0x00000000#32))

theorem maskSp_apply (r s : Fin 256) : maskSp q k (ix2 r s) = if s.val < r.val then k0_pay21 q k (ix2 r s) else 0 := by
  have h := pay65_apply r s
  unfold maskSp
  revert h
  generalize k0_pay65 = g
  generalize k0_pay21 q k = w
  intro h
  pointwise []
  rw [h]
  by_cases h' : s.val < r.val <;> simp [h', Scalar.select]

/-- The diagonal tile's running sums, from a position to the query. -/
theorem diag_cum (hz : RealScores q K) (hk : KeysAt K T k) (hu : IsTable u) (hT : T + 256 ≤ 2048) (r s : Fin 256) :
    k0_pay22 u (maskSp q k) (ix2 r s) = (run (score q K r) (T + s.val) (T + r.val) : EReal) := by
  rw [pay22_apply]
  refine (cum_tile (fun x => if x.val < r.val then sp (score q K r (T + x.val)) else 0) (fun x => maskSp q k (ix2 r x)) (fun x => ?_)
    (fun x s => u (ix2 x s)) hu s).trans ?_
  · show maskSp q k (ix2 r x) = _
    rw [maskSp_apply]
    by_cases hx : x.val < r.val
    · rw [if_pos hx, if_pos hx, tile_sp hz hk hT]
    · rw [if_neg hx, if_neg hx, EReal.coe_zero]
  congr 1
  exact sum_tile (fun n => sp (score q K r n)) T s.val r.val r.isLt.le

/-- The diagonal tile, from nothing: the state after it. -/
theorem diag (hz : RealScores q K) (hk : KeysAt K T k) (hv : ValsAt V T v) (hu : IsTable u) (hT : T + 256 ≤ 2048)
    {s : FVec Ideal S256x1 .f32} {a : Vec Ideal S1x256x128 .f32} (hs : ∀ r, s (ix2 r 0) = 0) (ha : ∀ r j, a (ix3 0 r j) = 0) :
    Inv q K V T T (addf s (k0_pay24 u (maskSp q k))) fun r j => k0_pay78 k0_pay65 s v (k0_pay23 u (k0_pay20 q k) (maskSp q k)) a (ix3 0 r j) := by
  constructor
  · intro r
    refine (show addf s (k0_pay24 u (maskSp q k)) (ix2 r 0) = s (ix2 r 0) + k0_pay24 u (maskSp q k) (ix2 r 0) from rfl).trans ?_
    rw [hs, zero_add, pay24_apply, diag_cum hz hk hu hT]; rfl
  · intro r j
    rw [pay78_apply, ha, zero_add]
    refine Eq.trans ?_ (sum_tile (fun n => (wt (score q K r) (T + r.val) n : EReal) * value V j n) T 0 r.val r.isLt.le)
    refine Finset.sum_congr rfl fun x _ => ?_
    rw [if_pos (Nat.zero_le x.val)]
    by_cases hx : x.val < r.val
    · rw [if_pos hx, if_pos hx, pay23_apply, tile_score hz hk hT, diag_cum hz hk hu hT, hs, hv x j (by omega), value, dif_pos (by omega),
        sub_zero, ← EReal.coe_sub, Ideal.exp_coe]
      rfl
    · rw [if_neg hx, if_neg hx, zero_mul]

end

end Cert.KernelIdeal.Att

end
-- ==== Proof.AttTable.lean ====
/- The table of ones that the attention's running sums are products with. -/
module

public import proofs.«01_k».proof.Proof.AttStep
public import Idealize.ShloMosaic.Lib.IdealHost

@[expose] public section

set_option maxRecDepth 16384

noncomputable section

open Idealize.ShloMosaic Idealize.ShloMosaic.TcCoe Idealize.SL.Sem

namespace Cert.KernelIdeal.Att

open Cert.KernelIdeal Cert.KernelIdeal.Gen Cert.Att

/-- The value of `f` at a digit to the base 128, as a choice among its 128 values: the form the table's words are written in. -/
def sel (n : ℕ) (f : ℕ → BitVec 16) : BitVec 16 := match n with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#16

/-- A choice at a digit is the function's value there. -/
theorem sel_eq (f : ℕ → BitVec 16) (n : ℕ) (h : n < 128) : sel n f = f n := by
  unfold sel
  interval_cases n <;> rfl

/-- The word at digits `a`, `b`, `c` of its position: one when the column is at most the row (of 256). -/
def word (a b c : ℕ) : BitVec 16 :=
  cond (Nat.ble (c + 128 * (b % 2)) ((a * 64 + b / 2) % 256)) 0x3F80#16 0x0000#16

/-- The words whose leading digit is `a`. -/
def digits (a i : ℕ) : BitVec 16 := sel (i / 128 % 128) fun b => sel (i % 128) fun c => word a b c

theorem lit0t1_0_eq (i : ℕ) : lit0t1_0 i = digits 0 i := rfl
theorem lit0t1_1_eq (i : ℕ) : lit0t1_1 i = digits 1 i := rfl
theorem lit0t1_2_eq (i : ℕ) : lit0t1_2 i = digits 2 i := rfl
theorem lit0t1_3_eq (i : ℕ) : lit0t1_3 i = digits 3 i := rfl
theorem lit0t1_4_eq (i : ℕ) : lit0t1_4 i = digits 4 i := rfl
theorem lit0t1_5_eq (i : ℕ) : lit0t1_5 i = digits 5 i := rfl
theorem lit0t1_6_eq (i : ℕ) : lit0t1_6 i = digits 6 i := rfl
theorem lit0t1_7_eq (i : ℕ) : lit0t1_7 i = digits 7 i := rfl

/-- The table, by the leading digit of the position. -/
theorem lit0t_digits (i a : ℕ) (ha : i / 16384 = a) (h : a < 8) : lit0t i = digits a i := by
  unfold lit0t
  rw [lit0t1_0_eq, lit0t1_1_eq, lit0t1_2_eq, lit0t1_3_eq, lit0t1_4_eq, lit0t1_5_eq, lit0t1_6_eq, lit0t1_7_eq, ha]
  clear ha
  interval_cases a <;> rfl

/-- The table's word at a position. -/
theorem lit0t_eq (i : ℕ) (h : i < 131072) : lit0t i = if i % 256 ≤ i / 256 % 256 then 0x3F80#16 else 0x0000#16 := by
  rw [lit0t_digits i (i / 16384) rfl (by omega)]
  unfold digits
  rw [sel_eq _ _ (by omega), sel_eq _ _ (by omega), word]
  have e1 : i % 128 + 128 * (i / 128 % 128 % 2) = i % 256 := by omega
  have e2 : (i / 16384 * 64 + i / 128 % 128 / 2) % 256 = i / 256 % 256 := by omega
  rw [e1, e2]
  by_cases hle : i % 256 ≤ i / 256 % 256
  · rw [if_pos hle, Nat.ble_eq.mpr hle]; rfl
  · rw [if_neg hle, Bool.eq_false_iff.mpr (fun hb => hle (Nat.ble_eq.mp hb))]; rfl

end Cert.KernelIdeal.Att

end
-- ==== Proof.AttLoop.lean ====
/- The attention's loop over pairs of key tiles keeps the invariant. -/
module

public import proofs.«01_k».proof.Proof.AttStep

@[expose] public section

set_option maxRecDepth 16384

noncomputable section

open Idealize.ShloMosaic Idealize.ShloMosaic.TcCoe Idealize.SL.Sem

namespace Cert.KernelIdeal.Att

open Cert.KernelIdeal Cert.KernelIdeal.Gen Cert.Att

/-! ## Where a trip loads -/

/-- The loop makes one trip for every two tiles before the diagonal one. -/
theorem trips_eq : ∀ i : grid0.Coords, (k0_t1_loop i).trips = (i 2).val / 2 := by decide +kernel

/-- The second loop makes no trip. -/
theorem trips2_eq : ∀ i : grid0.Coords, (k0_t2_loop i).trips = 0 := by decide +kernel

theorem off3_eq1 : ∀ (i : grid0.Coords) (k : Fin (k0_t1_loop i).trips),
    k0_off3 i k 1#32 = ![0, 0, 256 * ((i 2).val - 1 - 2 * k.val)] := by decide +kernel

theorem off3_eq2 : ∀ (i : grid0.Coords) (k : Fin (k0_t1_loop i).trips),
    k0_off3 i k 2#32 = ![0, 0, 256 * ((i 2).val - 2 - 2 * k.val)] := by decide +kernel

theorem off4_eq1 : ∀ (i : grid0.Coords) (k : Fin (k0_t1_loop i).trips),
    k0_off4 i k 1#32 = ![256 * ((i 2).val - 1 - 2 * k.val), 0] := by decide +kernel

theorem off4_eq2 : ∀ (i : grid0.Coords) (k : Fin (k0_t1_loop i).trips),
    k0_off4 i k 2#32 = ![256 * ((i 2).val - 2 - 2 * k.val), 0] := by decide +kernel

/-- Keys loaded at an offset are the keys from there on. -/
theorem keysAt_ld (K : Vec Ideal S1x128x2048 .bf16) (off : Fin 3 → ℕ) (inb) (B : ℕ) (h : off = ![0, 0, B]) :
    KeysAt K B (View.ld K (Rect.unit (s := S1x128x2048) off S1x128x256.size inb)) := by
  subst h
  intro e s hs
  exact View.ld_unit_apply_of K _ _ _ (ix3 0 e s) (ix3 0 e ⟨B + s.val, hs⟩) (by
    intro a; fin_cases a <;> simp)

/-- Values loaded at an offset are the values from there on. -/
theorem valsAt_ld (V : Vec Ideal S2048x128 .bf16) (off : Fin 2 → ℕ) (inb) (B : ℕ) (h : off = ![B, 0]) :
    ValsAt V B (View.ld V (Rect.unit (s := S2048x128) off S256x128.size inb)) := by
  subst h
  intro s j hs
  exact View.ld_unit_apply_of V _ _ _ (ix2 s j) (ix2 ⟨B + s.val, hs⟩ j) (by
    intro a; fin_cases a <;> simp)

/-! ## The two heads' accumulators in their buffer -/

section
variable (w : View sig .tc .vmem S2x256x128 .f32)

/-- What the buffer holds for a head. -/
def held (f : BufTy.Contents (Elt Ideal) w.ty) (h : Fin 2) (r : Fin 256) (j : Fin 128) : EReal := w.read (Elt Ideal) f (ix3 h r j)

variable {w} (f : BufTy.Contents (Elt Ideal) w.ty) (L : List (View.Piece (Elt Ideal) S2x256x128 .f32)) (r : Fin 256) (j : Fin 128)

theorem held_head0 (b : Vec Ideal S1x256x128 .f32) : held w (w.writes (Elt Ideal) f (⟨head0, b⟩ :: L)) 0 r j = b (ix3 0 r j) :=
  View.read_writes_cons_hit_of_coords w f head0 b L (ix3 0 r j) (ix3 0 r j) (by intro a; fin_cases a <;> simp [head0])

theorem held_head1 (b : Vec Ideal S1x256x128 .f32) : held w (w.writes (Elt Ideal) f (⟨head1, b⟩ :: L)) 1 r j = b (ix3 0 r j) :=
  View.read_writes_cons_hit_of_coords w f head1 b L (ix3 0 r j) (ix3 1 r j) (by intro a; fin_cases a <;> simp [head1])

theorem held_skip1 (b : Vec Ideal S1x256x128 .f32) :
    held w (w.writes (Elt Ideal) f (⟨head1, b⟩ :: L)) 0 r j = held w (w.writes (Elt Ideal) f L) 0 r j :=
  View.read_writes_cons_miss_of_axis w f ⟨head1, b⟩ L (ix3 0 r j) 0 1 1 rfl rfl rfl (Or.inl (by simp))

theorem held_skip0 (b : Vec Ideal S1x256x128 .f32) :
    held w (w.writes (Elt Ideal) f (⟨head0, b⟩ :: L)) 1 r j = held w (w.writes (Elt Ideal) f L) 1 r j :=
  View.read_writes_cons_miss_of_axis w f ⟨head0, b⟩ L (ix3 1 r j) 0 0 1 rfl rfl rfl (Or.inr (by simp))

theorem ld_head0 : View.ld (w.read (Elt Ideal) f) head0 (ix3 0 r j) = held w f 0 r j :=
  View.ld_unit_apply_of _ _ _ _ (ix3 0 r j) (ix3 0 r j) (by intro a; fin_cases a <;> simp)

theorem ld_head1 : View.ld (w.read (Elt Ideal) f) head1 (ix3 0 r j) = held w f 1 r j :=
  View.ld_unit_apply_of _ _ _ _ (ix3 0 r j) (ix3 1 r j) (by intro a; fin_cases a <;> simp)

theorem readCov_head0 : w.readCov L head0.toLoadRect (ix3 0 r j) = held w (w.writes (Elt Ideal) w.junk L) 0 r j :=
  ld_head0 _ r j

theorem readCov_head1 : w.readCov L head1.toLoadRect (ix3 0 r j) = held w (w.writes (Elt Ideal) w.junk L) 1 r j :=
  ld_head1 _ r j

end

/-- Both heads' states. -/
structure Inv2 (q0 q1 : FVec Ideal S256x128 .bf16) (K : Vec Ideal S1x128x2048 .bf16) (V : Vec Ideal S2048x128 .bf16) (T B : ℕ)
    (s : FVec Ideal S256x1 .f32 × FVec Ideal S256x1 .f32) (A : Fin 2 → Fin 256 → Fin 128 → EReal) : Prop where
  fst : Inv q0 K V T B s.1 (A 0)
  snd : Inv q1 K V T B s.2 (A 1)

/-- The state depends on the accumulator's values alone. -/
theorem Inv.congr {q : FVec Ideal S256x128 .bf16} {K : Vec Ideal S1x128x2048 .bf16} {V : Vec Ideal S2048x128 .bf16} {T B : ℕ}
    {s : FVec Ideal S256x1 .f32} {A A' : Fin 256 → Fin 128 → EReal} (h : Inv q K V T B s A) (e : ∀ r j, A' r j = A r j) :
    Inv q K V T B s A' :=
  ⟨h.sum, fun r j => (e r j).trans (h.val r j)⟩

section
variable (c : Dev nD) (i : grid0.Coords) (arg3 : Memref sig .tc .vmem S256x128 .bf16) (harg3 : arg3.IsWhole)
  (arg4 : Memref sig .tc .vmem S1x128x2048 .bf16) (harg4 : arg4.IsWhole) (arg5 : Memref sig .tc .vmem S2048x128 .bf16) (harg5 : arg5.IsWhole)
  (arg6 : Memref sig .tc .vmem S512x256 .bf16) (harg6 : arg6.IsWhole) (arg7 : Memref sig .tc .vmem S256x128 .bf16) (harg7 : arg7.IsWhole)
  (arg8 : Memref sig .tc .vmem S2x256x128 .f32) (harg8 : arg8.IsWhole) (arg2 : BitVec 32) (v5 : Vec Ideal S256x128 .bf16)
  (v6 : FVec Ideal S256x128 .bf16) (v7 : Vec Ideal S512x256 .bf16) (v10 : IVec S256x256 1) (v15 : FVec Ideal S256x1 .f32)
  (v22 : Vec Ideal S256x128 .bf16) (v63 : FVec Ideal S256x256 .f32) (v64 : FVec Ideal S256x1 .f32) (v78 : FVec Ideal S256x1 .f32)
  (K : Vec Ideal S1x128x2048 .bf16) (V : Vec Ideal S2048x128 .bf16)
  (hz0 : RealScores v5 K) (hz1 : RealScores v6 K) (hu : IsTable v7)

include hz0 hz1 hu

/-- One trip: two more tiles, for both heads. -/
theorem trip_inv (k : Fin (k0_t1_loop i).trips) (s : FVec Ideal S256x1 .f32 × FVec Ideal S256x1 .f32)
    (f : BufTy.Contents (Elt Ideal) arg8.view.ty) (h : Inv2 v5 v6 K V (256 * (i 2).val) (256 * ((i 2).val - 2 * k.val)) s (held arg8.view f)) :
    Inv2 v5 v6 K V (256 * (i 2).val) (256 * ((i 2).val - 2 * (k.val + 1)))
      (tripR_k0_t1 (F := Ideal) Variants.none c none i arg3 harg3 arg4 harg4 arg5 harg5 arg6 harg6 arg7 harg7 arg8 harg8 arg2 v5 v6 v7 v10 v15 v22 v63 v64 v78 (harg4.unread K) (harg5.unread V) k s f)
      (held arg8.view (arg8.view.writes (Elt Ideal) f
        (tripL_k0_t1 (F := Ideal) Variants.none c none i arg3 harg3 arg4 harg4 arg5 harg5 arg6 harg6 arg7 harg7 arg8 harg8 arg2 v5 v6 v7 v10 v15 v22 v63 v64 v78 (harg4.unread K) (harg5.unread V) k s f))) := by
  have hi : (i 2).val < 8 := (i 2).isLt
  have hk : k.val < (i 2).val / 2 := trips_eq i ▸ k.isLt
  rw [tripR_eq, tripL_eq]
  have k1 : KeysAt K (256 * ((i 2).val - 1 - 2 * k.val)) (keys1 i arg4 (harg4.unread K) k) := by
    unfold keys1; rw [harg4.read_unread]; exact keysAt_ld K _ _ _ (off3_eq1 i k)
  have k2 : KeysAt K (256 * ((i 2).val - 2 - 2 * k.val)) (keys2 i arg4 (harg4.unread K) k) := by
    unfold keys2; rw [harg4.read_unread]; exact keysAt_ld K _ _ _ (off3_eq2 i k)
  have v1 : ValsAt V (256 * ((i 2).val - 1 - 2 * k.val)) (vals1 i arg5 (harg5.unread V) k) := by
    unfold vals1; rw [harg5.read_unread]; exact valsAt_ld V _ _ _ (off4_eq1 i k)
  have v2 : ValsAt V (256 * ((i 2).val - 2 - 2 * k.val)) (vals2 i arg5 (harg5.unread V) k) := by
    unfold vals2; rw [harg5.read_unread]; exact valsAt_ld V _ _ _ (off4_eq2 i k)
  generalize keys1 i arg4 (harg4.unread K) k = κ1 at *
  generalize keys2 i arg4 (harg4.unread K) k = κ2 at *
  generalize vals1 i arg5 (harg5.unread V) k = ν1 at *
  generalize vals2 i arg5 (harg5.unread V) k = ν2 at *
  obtain ⟨h0, h1⟩ := h
  have e1 : 256 * ((i 2).val - 2 * k.val) = 256 * ((i 2).val - 1 - 2 * k.val) + 256 := by omega
  have e2 : 256 * ((i 2).val - 1 - 2 * k.val) = 256 * ((i 2).val - 2 - 2 * k.val) + 256 := by omega
  have e3 : 256 * ((i 2).val - 2 * (k.val + 1)) = 256 * ((i 2).val - 2 - 2 * k.val) := by omega
  rw [e1] at h0 h1
  rw [e3]
  have a0 := step hz0 k1 v1 hu (by omega) (by omega) (h0.congr (ld_head0 f))
  have a1 := step hz1 k1 v1 hu (by omega) (by omega) (h1.congr (ld_head1 f))
  rw [e2] at a0 a1
  dsimp only
  constructor
  · refine Inv.congr (step hz0 k2 v2 hu (by omega) (by omega) (a0.congr fun r j => ?_)) fun r j => (held_skip1 f _ r j _).trans (held_head0 f _ r j _)
    exact (readCov_head0 _ r j).trans ((held_skip1 _ _ r j _).trans (held_head0 _ _ r j _))
  · refine Inv.congr (step hz1 k2 v2 hu (by omega) (by omega) (a1.congr fun r j => ?_)) fun r j => held_head1 f _ r j _
    exact (readCov_head1 _ r j).trans ((held_skip0 _ _ r j _).trans (held_head1 _ _ r j _))

/-- Before every trip the invariant holds of the loop's state. -/
theorem loop_inv (init : FVec Ideal S256x1 .f32 × FVec Ideal S256x1 .f32) (G : BufTy.Contents (Elt Ideal) arg8.view.ty)
    (h : Inv2 v5 v6 K V (256 * (i 2).val) (256 * (i 2).val) init (held arg8.view G)) :
    ∀ k : ℕ, k ≤ (k0_t1_loop i).trips →
      Inv2 v5 v6 K V (256 * (i 2).val) (256 * ((i 2).val - 2 * k))
        (st_k0_t1 (F := Ideal) Variants.none c none i arg3 harg3 arg4 harg4 arg5 harg5 arg6 harg6 arg7 harg7 arg8 harg8 arg2 v5 v6 v7 v10 v15 v22 v63 v64 v78 (harg4.unread K) (harg5.unread V) G init k).1
        (held arg8.view (arg8.view.writes (Elt Ideal) G
          (st_k0_t1 (F := Ideal) Variants.none c none i arg3 harg3 arg4 harg4 arg5 harg5 arg6 harg6 arg7 harg7 arg8 harg8 arg2 v5 v6 v7 v10 v15 v22 v63 v64 v78 (harg4.unread K) (harg5.unread V) G init k).2))
  | 0, _ => h
  | k + 1, hk => by
    have ih := loop_inv init G h k (by omega)
    have e := st_k0_t1_succ (F := Ideal) Variants.none c none i arg3 harg3 arg4 harg4 arg5 harg5 arg6 harg6 arg7 harg7 arg8 harg8 arg2 v5 v6 v7 v10 v15 v22 v63 v64 v78 (harg4.unread K) (harg5.unread V) G init ⟨k, hk⟩
    rw [e, View.writes_append]
    exact trip_inv c i arg3 harg3 arg4 harg4 arg5 harg5 arg6 harg6 arg7 harg7 arg8 harg8 arg2 v5 v6 v7 v10 v15 v22 v63 v64 v78 K V hz0 hz1 hu ⟨k, hk⟩ _ _ ih

end

end Cert.KernelIdeal.Att

end
-- ==== Proof.AttBlock.lean ====
/- What the attention's body leaves in its output block. -/
module

public import proofs.«01_k».proof.Proof.AttLoop

@[expose] public section

set_option maxRecDepth 16384

noncomputable section

open Idealize.ShloMosaic Idealize.ShloMosaic.TcCoe Idealize.SL.Sem

namespace Cert.KernelIdeal.Att

open Cert.KernelIdeal Cert.KernelIdeal.Gen Cert.Att

/-- After the whole buffer is filled, it holds what it was filled with. -/
theorem held_fill {w : View sig .tc .vmem S2x256x128 .f32} (inb) (Z : Vec Ideal S2x256x128 .f32) (h : Fin 2) (r : Fin 256) (j : Fin 128) :
    held w (w.writes (Elt Ideal) w.junk [⟨Rect.unit ![0, 0, 0] S2x256x128.size inb, Z⟩]) h r j = Z (ix3 h r j) := by
  unfold held
  rw [View.read_writes_junk_apply_eq_canon, View.canon_unit_zero (by funext a; fin_cases a <;> rfl)]

theorem pay67_apply (r : Fin 256) : (k0_pay67 (F := Ideal)) (ix2 r 0) = 0 := by pointwise [k0_pay67]

theorem pay66_apply (h : Fin 2) (r : Fin 256) (j : Fin 128) : (k0_pay66 (F := Ideal)) (ix3 h r j) = 0 := by pointwise [k0_pay66]

theorem held_zero {w : View sig .tc .vmem S2x256x128 .f32} (inb) (h : Fin 2) (r : Fin 256) (j : Fin 128) :
    held w (w.writes (Elt Ideal) w.junk [⟨Rect.unit ![0, 0, 0] S2x256x128.size inb, (k0_pay66 (F := Ideal))⟩]) h r j = 0 :=
  by
  rw [held_fill]
  exact pay66_apply h r j

/-! ## The diagonal tile's values, in the terms of one head -/

section
variable (u : Vec Ideal S512x256 .bf16) (s : FVec Ideal S256x1 .f32) (v : Vec Ideal S256x128 .bf16) (x0 : Vec Ideal S256x128 .bf16)
  (q : FVec Ideal S256x128 .bf16) (k : Vec Ideal S1x128x256 .bf16) (a : Vec Ideal S1x256x128 .f32)

theorem pay76_eq : k0_pay76 u k0_pay65 s v (k0_pay69 x0 k) (k0_pay70 x0 k) a
    = k0_pay78 k0_pay65 s v (k0_pay23 u (k0_pay20 (k0_pay63 x0) k) (maskSp (k0_pay63 x0) k)) a := rfl

theorem pay74_eq : k0_pay74 q u k0_pay65 (k0_pay68 k) = k0_pay23 u (k0_pay20 q k) (maskSp q k) := rfl

theorem pay75_eq : k0_pay75 q u k0_pay65 (k0_pay68 k) = k0_pay24 u (maskSp q k) := rfl

theorem pay77_eq : k0_pay77 u s (k0_pay70 x0 k) = addf s (k0_pay24 u (maskSp (k0_pay63 x0) k)) := rfl

theorem pay79_eq (t : FVec Ideal S256x1 .f32) : k0_pay79 s t = addf s t := rfl

end

section
variable (c : Dev nD) (i : grid0.Coords) (arg3 : Memref sig .tc .vmem S256x128 .bf16) (harg3 : arg3.IsWhole)
  (arg4 : Memref sig .tc .vmem S1x128x2048 .bf16) (harg4 : arg4.IsWhole) (arg5 : Memref sig .tc .vmem S2048x128 .bf16) (harg5 : arg5.IsWhole)
  (arg6 : Memref sig .tc .vmem S512x256 .bf16) (harg6 : arg6.IsWhole) (arg7 : Memref sig .tc .vmem S256x128 .bf16) (harg7 : arg7.IsWhole)
  (arg8 : Memref sig .tc .vmem S2x256x128 .f32) (harg8 : arg8.IsWhole)

/-- The second loop, which makes no trip, leaves what it found. -/
theorem st2_eq (arg2 : BitVec 32) (v5 : Vec Ideal S256x128 .bf16)
  (v6 : FVec Ideal S256x128 .bf16) (v7 : Vec Ideal S512x256 .bf16) (v10 : IVec S256x256 1) (v15 : FVec Ideal S256x1 .f32)
  (v22 : Vec Ideal S256x128 .bf16) (v63 : FVec Ideal S256x256 .f32) (v64 : FVec Ideal S256x1 .f32) (v78 : FVec Ideal S256x1 .f32)
  (v114 : BitVec 32) (X4 X5 G init) (n : ℕ) (h : n = 0) :
    st_k0_t2 (F := Ideal) Variants.none c none i arg3 harg3 arg4 harg4 arg5 harg5 arg6 harg6 arg7 harg7 arg8 harg8 arg2 v5 v6 v7 v10 v15 v22 v63 v64 v78 v114 X4 X5 G init n = (init, []) := by
  subst h; rfl

/-- What the buffer has been given when the loop starts: zeros, then each head's diagonal tile. -/
abbrev startPieces (x0 : Vec Ideal S256x128 .bf16) (x3 : Vec Ideal S512x256 .bf16) (k : Vec Ideal S1x128x256 .bf16) (v : Vec Ideal S256x128 .bf16)
    (inb : ∀ a, (![0, 0, 0] : Fin 3 → ℕ) a + S2x256x128.size a ≤ S2x256x128.size a) : List (View.Piece (Elt Ideal) S2x256x128 .f32) :=
  [⟨head1, k0_pay78 k0_pay65 k0_pay67 v (k0_pay74 (k0_pay64 x0) x3 k0_pay65 (k0_pay68 k))
      (arg8.view.readCov [⟨head0, k0_pay76 x3 k0_pay65 k0_pay67 v (k0_pay69 x0 k) (k0_pay70 x0 k)
          (arg8.view.readCov [⟨Rect.unit ![0, 0, 0] S2x256x128.size inb, (k0_pay66 (F := Ideal))⟩] head0.toLoadRect)⟩,
        ⟨Rect.unit ![0, 0, 0] S2x256x128.size inb, (k0_pay66 (F := Ideal))⟩] head1.toLoadRect)⟩,
    ⟨head0, k0_pay76 x3 k0_pay65 k0_pay67 v (k0_pay69 x0 k) (k0_pay70 x0 k)
          (arg8.view.readCov [⟨Rect.unit ![0, 0, 0] S2x256x128.size inb, (k0_pay66 (F := Ideal))⟩] head0.toLoadRect)⟩,
    ⟨Rect.unit ![0, 0, 0] S2x256x128.size inb, (k0_pay66 (F := Ideal))⟩]

/-- The sums the loop starts from. -/
abbrev startSums (x0 : Vec Ideal S256x128 .bf16) (x3 : Vec Ideal S512x256 .bf16) (k : Vec Ideal S1x128x256 .bf16) :
    FVec Ideal S256x1 .f32 × FVec Ideal S256x1 .f32 :=
  (k0_pay77 x3 k0_pay67 (k0_pay70 x0 k), k0_pay79 k0_pay67 (k0_pay75 (k0_pay64 x0) x3 k0_pay65 (k0_pay68 k)))

/-- The loop's state after `n` trips. -/
abbrev loopState (x0 : Vec Ideal S256x128 .bf16) (x1 : Vec Ideal S1x128x2048 .bf16) (x2 : Vec Ideal S2048x128 .bf16)
    (x3 : Vec Ideal S512x256 .bf16) (k : Vec Ideal S1x128x256 .bf16) (v : Vec Ideal S256x128 .bf16)
    (inb : ∀ a, (![0, 0, 0] : Fin 3 → ℕ) a + S2x256x128.size a ≤ S2x256x128.size a) (n : ℕ) :=
  st_k0_t1 (F := Ideal) Variants.none c none i arg3 harg3 arg4 harg4 arg5 harg5 arg6 harg6 arg7 harg7 arg8 harg8 (BitVec.ofNat 32 (i 2).val)
    (k0_pay63 x0) (k0_pay64 x0) x3 k0_pay65 k0_pay67 v (k0_pay74 (k0_pay64 x0) x3 k0_pay65 (k0_pay68 k))
    (k0_pay75 (k0_pay64 x0) x3 k0_pay65 (k0_pay68 k)) (k0_pay77 x3 k0_pay67 (k0_pay70 x0 k)) (harg4.unread x1) (harg5.unread x2)
    (arg8.view.writes (Elt Ideal) arg8.view.junk (startPieces arg8 x0 x3 k v inb)) (startSums x0 x3 k) n

variable (x0 : Vec Ideal S256x128 .bf16) (x1 : Vec Ideal S1x128x2048 .bf16) (x2 : Vec Ideal S2048x128 .bf16) (x3 : Vec Ideal S512x256 .bf16)
  (hz0 : RealScores (k0_pay63 x0) x1) (hz1 : RealScores (k0_pay64 x0) x1) (hu : IsTable x3)

/-- Two head halves side by side: what a block of the result holds. -/
def blockOut (x0 : Vec Ideal S256x128 .bf16) (x1 : Vec Ideal S1x128x2048 .bf16) (x2 : Vec Ideal S2048x128 .bf16) (T : ℕ)
    (r : Fin 256) (j : Fin 128) : EReal :=
  if j.val < 64 then out (score (k0_pay63 x0) x1 r) (value x2 j) 0 (T + r.val) else out (score (k0_pay64 x0) x1 r) (value x2 j) 0 (T + r.val)

/-- The whole query block, as loaded. -/
theorem q_load (inb) : View.readAt (Elt Ideal) arg3.view (Rect.unit ![0, 0] S256x128.size inb).toLoadRect (harg3.unread x0) = x0 := by
  rw [View.readAt_eq_ld, harg3.read_unread, View.ld_unit_zero (by funext a; fin_cases a <;> rfl)]

/-- The whole table, as loaded. -/
theorem u_load (inb) : View.readAt (Elt Ideal) arg6.view (Rect.unit ![0, 0] S512x256.size inb).toLoadRect (harg6.unread x3) = x3 := by
  rw [View.readAt_eq_ld, harg6.read_unread, View.ld_unit_zero (by funext a; fin_cases a <;> rfl)]

/-- A tile of keys, as loaded. -/
theorem k_load (off : Fin 3 → ℕ) (inb) (B : ℕ) (h : off = ![0, 0, B]) :
    KeysAt x1 B (View.readAt (Elt Ideal) arg4.view (Rect.unit (s := S1x128x2048) off S1x128x256.size inb).toLoadRect (harg4.unread x1)) := by
  rw [View.readAt_eq_ld, harg4.read_unread]
  exact keysAt_ld x1 _ _ _ h

/-- A tile of values, as loaded. -/
theorem v_load (off : Fin 2 → ℕ) (inb) (B : ℕ) (h : off = ![B, 0]) :
    ValsAt x2 B (View.readAt (Elt Ideal) arg5.view (Rect.unit (s := S2048x128) off S256x128.size inb).toLoadRect (harg5.unread x2)) := by
  rw [View.readAt_eq_ld, harg5.read_unread]
  exact valsAt_ld x2 _ _ _ h

include hz0 hz1 hu

/-- The buffer after the diagonal tile, and the sums the loop starts from. -/
theorem start_inv (k : Vec Ideal S1x128x256 .bf16) (v : Vec Ideal S256x128 .bf16) (hk : KeysAt x1 (256 * (i 2).val) k) (hv : ValsAt x2 (256 * (i 2).val) v)
    (inb) :
    Inv2 (k0_pay63 x0) (k0_pay64 x0) x1 x2 (256 * (i 2).val) (256 * (i 2).val) (startSums x0 x3 k)
      (held arg8.view (arg8.view.writes (Elt Ideal) arg8.view.junk (startPieces arg8 x0 x3 k v inb))) := by
  have hi : (i 2).val < 8 := (i 2).isLt
  unfold startSums startPieces
  rw [pay77_eq, pay79_eq, pay75_eq, pay74_eq, pay76_eq]
  constructor
  · exact (diag hz0 hk hv hu (by omega) pay67_apply fun r j => (readCov_head0 _ r j).trans (held_zero inb 0 r j)).congr
      fun r j => (held_skip1 _ _ r j _).trans (held_head0 _ _ r j _)
  · exact (diag hz1 hk hv hu (by omega) pay67_apply fun r j => (readCov_head1 _ r j).trans ((held_skip0 _ _ r j _).trans (held_zero inb 1 r j))).congr
      fun r j => held_head1 _ _ r j _

/-- The state after the loop. -/
theorem end_inv {k : Vec Ideal S1x128x256 .bf16} {v : Vec Ideal S256x128 .bf16} {inb} {B : ℕ} (hk : KeysAt x1 (256 * (i 2).val) k)
    (hv : ValsAt x2 (256 * (i 2).val) v) (hB : 256 * ((i 2).val - 2 * ((i 2).val / 2)) = B) :
    Inv2 (k0_pay63 x0) (k0_pay64 x0) x1 x2 (256 * (i 2).val) B
      (loopState c i arg3 harg3 arg4 harg4 arg5 harg5 arg6 harg6 arg7 harg7 arg8 harg8 x0 x1 x2 x3 k v inb (k0_t1_loop i).trips).1
      (held arg8.view (arg8.view.writes (Elt Ideal) (arg8.view.writes (Elt Ideal) arg8.view.junk (startPieces arg8 x0 x3 k v inb))
        (loopState c i arg3 harg3 arg4 harg4 arg5 harg5 arg6 harg6 arg7 harg7 arg8 harg8 x0 x1 x2 x3 k v inb (k0_t1_loop i).trips).2)) := by
  subst hB
  rw [← trips_eq i]
  exact loop_inv c i arg3 harg3 arg4 harg4 arg5 harg5 arg6 harg6 arg7 harg7 arg8 harg8 _ _ _ x3 _ _ _ _ _ _ x1 x2 hz0 hz1 hu _ _
    (start_inv i arg8 x0 x1 x2 x3 hz0 hz1 hu k v hk hv inb) _ le_rfl

/-- With an even number of tiles before the diagonal one. -/
theorem out_A_apply (hc0 : ¬cond0_0 i) (hp : (i 2).val % 2 = 0) (r : Fin 256) (j : Fin 128) :
    out0_A_4 (F := Ideal) c i arg3 harg3 arg4 harg4 arg5 harg5 arg6 harg6 arg7 harg7 arg8 harg8 hc0 x0 x1 x2 x3 (ix2 r j)
      = blockOut x0 x1 x2 (256 * (i 2).val) r j := by
  unfold out0_A_4
  rw [View.read_writes_eq_canon _ _ _ (cover0_A_4 c i arg3 harg3 arg4 harg4 arg5 harg5 arg6 harg6 arg7 harg7 arg8 harg8 hc0 x0 x1 x2 x3)]
  unfold kernelRun0_A
  dsimp only
  sl_unfold_words
  rw [View.canon_unit_zero (by funext a; fin_cases a <;> rfl)]
  refine (pay3_apply _ _ r j).trans ?_
  rw [readCov_head0, readCov_head1, st2_eq _ _ _ _ _ _ _ _ _ _ _ _ _ _ _ _ _ _ _ _ _ _ _ _ _ _ _ _ _ _ (trips2_eq i), List.nil_append, View.writes_append,
    q_load, u_load]
  unfold blockOut
  have hB : 256 * ((i 2).val - 2 * ((i 2).val / 2)) = 0 := by omega
  by_cases hj : j.val < 64
  · rw [if_pos hj, if_pos hj]
    exact (end_inv c i arg3 harg3 arg4 harg4 arg5 harg5 arg6 harg6 arg7 harg7 arg8 harg8 x0 x1 x2 x3 hz0 hz1 hu
      (k_load arg4 harg4 x1 _ _ _ (k0_off1_eq i)) (v_load arg5 harg5 x2 _ _ _ (k0_off2_eq i)) hB).fst.val r j
  · rw [if_neg hj, if_neg hj]
    exact (end_inv c i arg3 harg3 arg4 harg4 arg5 harg5 arg6 harg6 arg7 harg7 arg8 harg8 x0 x1 x2 x3 hz0 hz1 hu
      (k_load arg4 harg4 x1 _ _ _ (k0_off1_eq i)) (v_load arg5 harg5 x2 _ _ _ (k0_off2_eq i)) hB).snd.val r j

/-- With an odd number of tiles before the diagonal one: the first tile comes last, alone. -/
theorem out_B_apply (hc0 : cond0_0 i) (hp : (i 2).val % 2 = 1) (r : Fin 256) (j : Fin 128) :
    out0_B_4 (F := Ideal) c i arg3 harg3 arg4 harg4 arg5 harg5 arg6 harg6 arg7 harg7 arg8 harg8 hc0 x0 x1 x2 x3 (ix2 r j)
      = blockOut x0 x1 x2 (256 * (i 2).val) r j := by
  unfold out0_B_4
  rw [View.read_writes_eq_canon _ _ _ (cover0_B_4 c i arg3 harg3 arg4 harg4 arg5 harg5 arg6 harg6 arg7 harg7 arg8 harg8 hc0 x0 x1 x2 x3)]
  unfold kernelRun0_B
  dsimp only
  sl_unfold_words
  rw [View.canon_unit_zero (by funext a; fin_cases a <;> rfl)]
  refine (pay3_apply _ _ r j).trans ?_
  rw [st2_eq _ _ _ _ _ _ _ _ _ _ _ _ _ _ _ _ _ _ _ _ _ _ _ _ _ _ _ _ _ _ (trips2_eq i), List.nil_append, q_load, u_load]
  unfold blockOut
  have hi : (i 2).val < 8 := (i 2).isLt
  have hB : 256 * ((i 2).val - 2 * ((i 2).val / 2)) = 0 + 256 := by omega
  by_cases hj : j.val < 64
  · rw [if_pos hj, if_pos hj]
    refine (readCov_head0 _ r j).trans ((held_skip1 _ _ r j _).trans ((held_head0 _ _ r j _).trans ?_))
    refine (step hz0 (k_load arg4 harg4 x1 _ _ 0 rfl) (v_load arg5 harg5 x2 _ _ 0 rfl) hu (by omega) (by omega) (Inv.congr
      (end_inv c i arg3 harg3 arg4 harg4 arg5 harg5 arg6 harg6 arg7 harg7 arg8 harg8 x0 x1 x2 x3 hz0 hz1 hu
      (k_load arg4 harg4 x1 _ _ _ (k0_off1_eq i)) (v_load arg5 harg5 x2 _ _ _ (k0_off2_eq i)) hB).fst fun r j => ?_)).val r j
    rw [readCov_head0, View.writes_append]
    rfl
  · rw [if_neg hj, if_neg hj]
    refine (readCov_head1 _ r j).trans ((held_head1 _ _ r j _).trans ?_)
    refine (step hz1 (k_load arg4 harg4 x1 _ _ 0 rfl) (v_load arg5 harg5 x2 _ _ 0 rfl) hu (by omega) (by omega) (Inv.congr
      (end_inv c i arg3 harg3 arg4 harg4 arg5 harg5 arg6 harg6 arg7 harg7 arg8 harg8 x0 x1 x2 x3 hz0 hz1 hu
      (k_load arg4 harg4 x1 _ _ _ (k0_off1_eq i)) (v_load arg5 harg5 x2 _ _ _ (k0_off2_eq i)) hB).snd fun r j => ?_)).val r j
    rw [readCov_head1, held_skip0, View.writes_append]
    rfl

end

end Cert.KernelIdeal.Att

end
-- ==== Proof.AttArray.lean ====
/- What the tiled attention leaves in its result array. -/
module

public import proofs.«01_k».proof.Proof.AttBlock
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen Cert.Att

/-! ## One query of one head, from the whole arrays -/

section
variable (q : S16384x1024.Idx → EReal) (kt : S8x1024x2048.Idx → EReal) (v : S16384x1024.Idx → EReal)

/-- The score of row `n`'s query of head `g` with the key at position `s` of the row's batch, in the extended reals. -/
def score' (n : Fin 16384) (g : Fin 16) (s : Fin 2048) : EReal :=
  ∑ e : Fin 64, q (ix2 n ⟨g.val * 64 + e.val, by omega⟩) * kt (ix3 ⟨n.val / 2048, by omega⟩ ⟨g.val * 64 + e.val, by omega⟩ s)

/-- The same as a real number, 0 past the end. -/
def scoreR (n : Fin 16384) (g : Fin 16) (s : ℕ) : ℝ := if h : s < 2048 then (score' q kt n g ⟨s, h⟩).toReal else 0

/-- Column `l` of the value at a position of row `n`'s batch, 0 past the end. -/
def valueR (n : Fin 16384) (l : Fin 1024) (s : ℕ) : EReal :=
  if h : s < 2048 then v (ix2 ⟨n.val / 2048 * 2048 + s, by omega⟩ l) else 0

/-- Every score is a real number. -/
def Real' : Prop := ∀ n g s, score' q kt n g s = (scoreR q kt n g s.val : EReal)

/-- The attention of row `n`, column `l`: over the earlier positions of the batch, the weighted values. -/
def attn (n : Fin 16384) (l : Fin 1024) : EReal :=
  out (scoreR q kt n ⟨l.val / 64, by omega⟩) (valueR v n l) 0 (n.val % 2048)

end

variable (m : (ℓ : Loc nD τ sig) → Buf (Elt Ideal) ℓ)

/-- The result array the attention should leave. -/
def result (c : Dev nD) : Buf (Elt Ideal) ((c : Thread nD τ).loc main_v0) := fun (i : S16384x1024.Idx) =>
  attn (m ((c : Thread nD τ).loc main_arg0)) (m ((c : Thread nD τ).loc main_arg1)) (m ((c : Thread nD τ).loc main_arg2)) (i 0) (i 1)

/-- Where each window's block lies: point `t` takes batch `t / 64`, head pair `(t / 8) % 8` and query tile `t % 8`. -/
theorem idx (t : Fin cfg0.N) : win0_0.index t = ![t.val / 64 * 8 + t.val % 8, t.val / 8 % 8] ∧ win0_1.index t = ![t.val / 64, t.val / 8 % 8, 0]
    ∧ win0_2.index t = ![t.val / 64, t.val / 8 % 8] ∧ win0_3.index t = ![0, 0] ∧ win0_4.index t = ![t.val / 64 * 8 + t.val % 8, t.val / 8 % 8] :=
  (by decide +kernel : ∀ t : Fin grid0.N, win0_0.index t = ![t.val / 64 * 8 + t.val % 8, t.val / 8 % 8] ∧ win0_1.index t = ![t.val / 64, t.val / 8 % 8, 0]
    ∧ win0_2.index t = ![t.val / 64, t.val / 8 % 8] ∧ win0_3.index t = ![0, 0] ∧ win0_4.index t = ![t.val / 64 * 8 + t.val % 8, t.val / 8 % 8]) t

/-- The query tile of a point. -/
theorem coord2 (t : Fin cfg0.N) : ((grid0.coords t) 2).val = t.val % 8 :=
  (by decide +kernel : ∀ t : Fin grid0.N, ((grid0.coords t) 2).val = t.val % 8) t

/-- Row `r` of the query block at point `t`, in the whole array. -/
def blockRow (t : Fin cfg0.N) (r : Fin 256) : Fin 16384 :=
  ⟨256 * (t.val / 64 * 8 + t.val % 8) + r.val, by have : t.val < 512 := t.isLt; omega⟩

/-- Lane `j` of the blocks at point `t`, in the whole array. -/
def blockCol (t : Fin cfg0.N) (j : Fin 128) : Fin 1024 := ⟨128 * (t.val / 8 % 8) + j.val, by omega⟩

/-- The batch of point `t`. -/
def blockBatch (t : Fin cfg0.N) : Fin 8 := ⟨t.val / 64, by have : t.val < 512 := t.isLt; omega⟩

/-- The queries' block. -/
theorem blk0 (c : Dev nD) (t : Fin cfg0.N) (r : Fin 256) (j : Fin 128) :
    iblk m c 0 t (ix2 r j) = m ((c : Thread nD τ).loc main_arg0) (ix2 (blockRow t r) (blockCol t j)) := by
  have e := (idx t).1
  unfold blockRow blockCol
  blk_ext! [iblk, V, e]

/-- The keys' block. -/
theorem blk1 (c : Dev nD) (t : Fin cfg0.N) (j : Fin 128) (s : Fin 2048) :
    iblk m c 1 t (ix3 0 j s) = m ((c : Thread nD τ).loc main_arg1) (ix3 (blockBatch t) (blockCol t j) s) := by
  have e := (idx t).2.1
  unfold blockBatch blockCol
  blk_ext! [iblk, V, e]

/-- The values' block. -/
theorem blk2 (c : Dev nD) (t : Fin cfg0.N) (s : Fin 2048) (j : Fin 128) :
    iblk m c 2 t (ix2 s j) = m ((c : Thread nD τ).loc main_arg2)
      (ix2 ⟨2048 * (blockBatch t).val + s.val, by have := (blockBatch t).isLt; omega⟩ (blockCol t j)) := by
  have e := (idx t).2.2.1
  unfold blockBatch blockCol
  blk_ext! [iblk, V, e]

/-- The table's block is the constant. -/
theorem blk3 (c : Dev nD) (t : Fin cfg0.N) (x : Fin 512) (s : Fin 256) :
    iblk m c 3 t (ix2 x s) = FloatOps.ofBits (F := Ideal) .bf16 (lit0 (S512x256.rowMajor (ix2 x s))) := by
  have e := (idx t).2.2.2.1
  blk_ext! [iblk, V, e]

/-- Where the result's block lies. -/
theorem emb4 (t : Fin cfg0.N) (r : Fin 256) (j : Fin 128) : ((cfg0.win 4).blk t).view.emb (ix2 r j) = ix2 (blockRow t r) (blockCol t j) := by
  have e := (idx t).2.2.2.2
  unfold blockRow blockCol
  blk_ext [e]

/-! ## A block's values are the array's -/

/-- A sum over the lanes of two heads is the sum over the one's and the sum over the other's. -/
theorem sum_lanes (f : Fin 128 → EReal) :
    ∑ e, f e = (∑ e : Fin 64, f ⟨e.val, by omega⟩) + ∑ e : Fin 64, f ⟨64 + e.val, by omega⟩ :=
  Fin.sum_univ_add (a := 64) (b := 64) f

/-- The batch of a row of a block. -/
theorem blockRow_div (t : Fin cfg0.N) (r : Fin 256) : (blockRow t r).val / 2048 = t.val / 64 := by
  have : t.val < 512 := t.isLt
  unfold blockRow
  dsimp only
  omega

/-- The position of a row of a block in its batch. -/
theorem blockRow_mod (t : Fin cfg0.N) (r : Fin 256) : (blockRow t r).val % 2048 = 256 * (t.val % 8) + r.val := by
  have : t.val < 512 := t.isLt
  unfold blockRow
  dsimp only
  omega

/-- The head that lane group `p` of a block belongs to. -/
def blockHead (t : Fin cfg0.N) (p : Fin 2) : Fin 16 := ⟨2 * (t.val / 8 % 8) + p.val, by omega⟩

/-- The score of a block's row with the lanes of the first head kept. -/
theorem block_score0 (c : Dev nD) (t : Fin cfg0.N) (r : Fin 256) (s : Fin 2048) :
    ∑ e : Fin 128, k0_pay63 (iblk m c 0 t) (ix2 r e) * iblk m c 1 t (ix3 0 e s)
      = score' (m ((c : Thread nD τ).loc main_arg0)) (m ((c : Thread nD τ).loc main_arg1)) (blockRow t r) (blockHead t 0) s := by
  rw [sum_lanes, Finset.sum_eq_zero (s := Finset.univ) (f := fun e : Fin 64 => k0_pay63 (iblk m c 0 t) (ix2 r ⟨64 + e.val, _⟩) * iblk m c 1 t (ix3 0 ⟨64 + e.val, _⟩ s))
    (fun e _ => by rw [pay63_apply, if_neg (by simp), zero_mul]), add_zero]
  refine Finset.sum_congr rfl fun e _ => ?_
  rw [pay63_apply, if_pos e.isLt, blk0, blk1]
  have e1 : blockCol t ⟨e.val, by omega⟩ = ⟨(blockHead t 0).val * 64 + e.val, by have := (blockHead t 0).isLt; omega⟩ := by
    apply Fin.ext; simp only [blockCol, blockHead, Fin.val_zero]; omega
  have e2 : blockBatch t = ⟨(blockRow t r).val / 2048, by have := (blockRow t r).isLt; omega⟩ := by
    apply Fin.ext; simp only [blockBatch, blockRow_div]
  rw [e1, e2]

/-- The score of a block's row with the lanes of the second head kept. -/
theorem block_score1 (c : Dev nD) (t : Fin cfg0.N) (r : Fin 256) (s : Fin 2048) :
    ∑ e : Fin 128, k0_pay64 (iblk m c 0 t) (ix2 r e) * iblk m c 1 t (ix3 0 e s)
      = score' (m ((c : Thread nD τ).loc main_arg0)) (m ((c : Thread nD τ).loc main_arg1)) (blockRow t r) (blockHead t 1) s := by
  rw [sum_lanes, Finset.sum_eq_zero (s := Finset.univ) (f := fun e : Fin 64 => k0_pay64 (iblk m c 0 t) (ix2 r ⟨e.val, _⟩) * iblk m c 1 t (ix3 0 ⟨e.val, _⟩ s))
    (fun e _ => by rw [pay64_apply, if_pos e.isLt, zero_mul]), zero_add]
  refine Finset.sum_congr rfl fun e _ => ?_
  rw [pay64_apply, if_neg (by simp), blk0, blk1]
  have e1 : blockCol t ⟨64 + e.val, by omega⟩ = ⟨(blockHead t 1).val * 64 + e.val, by have := (blockHead t 1).isLt; omega⟩ := by
    apply Fin.ext; simp only [blockCol, blockHead, Fin.val_one]; omega
  have e2 : blockBatch t = ⟨(blockRow t r).val / 2048, by have := (blockRow t r).isLt; omega⟩ := by
    apply Fin.ext; simp only [blockBatch, blockRow_div]
  rw [e1, e2]

/-- A block's value column, position by position. -/
theorem block_value (c : Dev nD) (t : Fin cfg0.N) (r : Fin 256) (j : Fin 128) :
    value (iblk m c 2 t) j = valueR (m ((c : Thread nD τ).loc main_arg2)) (blockRow t r) (blockCol t j) := by
  funext s
  unfold value valueR
  split
  · rename_i h
    rw [blk2]
    congr 2
    apply Fin.ext
    simp only [blockBatch, blockRow_div]
    omega
  · rfl

/-- The scores of the first head's lanes, as real numbers. -/
theorem block_scoreR0 (c : Dev nD) (t : Fin cfg0.N) (r : Fin 256) :
    score (k0_pay63 (iblk m c 0 t)) (iblk m c 1 t) r
      = scoreR (m ((c : Thread nD τ).loc main_arg0)) (m ((c : Thread nD τ).loc main_arg1)) (blockRow t r) (blockHead t 0) := by
  funext s
  unfold score scoreR
  split
  · rw [block_score0]
  · rfl

/-- The scores of the second head's lanes, as real numbers. -/
theorem block_scoreR1 (c : Dev nD) (t : Fin cfg0.N) (r : Fin 256) :
    score (k0_pay64 (iblk m c 0 t)) (iblk m c 1 t) r
      = scoreR (m ((c : Thread nD τ).loc main_arg0)) (m ((c : Thread nD τ).loc main_arg1)) (blockRow t r) (blockHead t 1) := by
  funext s
  unfold score scoreR
  split
  · rw [block_score1]
  · rfl

/-- The block's values are the array's. -/
theorem block_attn (c : Dev nD) (t : Fin cfg0.N) (r : Fin 256) (j : Fin 128) :
    blockOut (iblk m c 0 t) (iblk m c 1 t) (iblk m c 2 t) (256 * (t.val % 8)) r j
      = attn (m ((c : Thread nD τ).loc main_arg0)) (m ((c : Thread nD τ).loc main_arg1)) (m ((c : Thread nD τ).loc main_arg2))
          (blockRow t r) (blockCol t j) := by
  unfold blockOut attn
  rw [block_value m c t r j, block_scoreR0, block_scoreR1, blockRow_mod]
  split
  · rename_i h
    have e : blockHead t 0 = ⟨(blockCol t j).val / 64, by have := (blockCol t j).isLt; omega⟩ := by
      apply Fin.ext; simp only [blockCol, blockHead, Fin.val_zero]; omega
    rw [e]
  · rename_i h
    have e : blockHead t 1 = ⟨(blockCol t j).val / 64, by have := (blockCol t j).isLt; omega⟩ := by
      apply Fin.ext; simp only [blockCol, blockHead, Fin.val_one]; omega
    rw [e]

/-! ## The array after the run -/

section
variable (hu : IsTable fun i => FloatOps.ofBits (F := Ideal) .bf16 (lit0 (S512x256.rowMajor i))) (c : Dev nD)
  (hr : Real' (m ((c : Thread nD τ).loc main_arg0)) (m ((c : Thread nD τ).loc main_arg1)))

include hr in
/-- The scores of a block's first head are real numbers. -/
theorem block_real0 (t : Fin cfg0.N) : RealScores (k0_pay63 (iblk m c 0 t)) (iblk m c 1 t) := fun r s => by
  rw [block_scoreR0, block_score0]
  exact hr _ _ _

include hr in
/-- The scores of a block's second head are real numbers. -/
theorem block_real1 (t : Fin cfg0.N) : RealScores (k0_pay64 (iblk m c 0 t)) (iblk m c 1 t) := fun r s => by
  rw [block_scoreR1, block_score1]
  exact hr _ _ _

include hu in
/-- The table's block is the two triangles. -/
theorem block_table (t : Fin cfg0.N) : IsTable (iblk m c 3 t) := fun x s => by
  rw [blk3]
  exact hu x s

include hu hr in
/-- The result's block at a point. -/
theorem outs_apply (t : Fin cfg0.N) (r : Fin 256) (j : Fin 128) :
    outsAt0 (F := Ideal) m c t.val t.isLt (ix2 r j)
      = attn (m ((c : Thread nD τ).loc main_arg0)) (m ((c : Thread nD τ).loc main_arg1)) (m ((c : Thread nD τ).loc main_arg2))
          (blockRow t r) (blockCol t j) := by
  rw [← block_attn, ← coord2 t]
  have hz0 := block_real0 m c hr t
  have hz1 := block_real1 m c hr t
  have ht := block_table m hu c t
  by_cases h0 : t.val % 2 = 1
  · rw [outsAt0_B m c t h0]
    exact out_B_apply c (grid0.coords t) (ms0_0 t) (hs0_0 t) (ms0_1 t) (hs0_1 t) (ms0_2 t) (hs0_2 t) (ms0_3 t) (hs0_3 t) (ms0_4 t) (hs0_4 t)
      scM0_0 (Memref.isWhole_whole _) _ _ _ _ hz0 hz1 ht ((hcond0_0 t).mpr h0) (by rw [coord2]; omega) r j
  · rw [outsAt0_A m c t h0]
    exact out_A_apply c (grid0.coords t) (ms0_0 t) (hs0_0 t) (ms0_1 t) (hs0_1 t) (ms0_2 t) (hs0_2 t) (ms0_3 t) (hs0_3 t) (ms0_4 t) (hs0_4 t)
      scM0_0 (Memref.isWhole_whole _) _ _ _ _ hz0 hz1 ht (fun h => h0 ((hcond0_0 t).mp h)) (by rw [coord2]; omega) r j

include hu hr in
/-- The result's array after the run. -/
theorem final4 : (dats m 0 c).arrAt 4 cfg0.N = result m c := by
  refine (dats m 0 c).arrAt_eq_of_covers 4 _ (by decide +kernel) fun t hf y => ?_
  obtain ⟨r, j, rfl⟩ : ∃ (r : Fin 256) (j : Fin 128), y = ix2 r j := ⟨y 0, y 1, eq_ix2 y⟩
  rw [emb4]
  blk_simp
  rw [after0_4]
  rw [outs_apply m hu c hr]
  rfl

end

end Cert.KernelIdeal.Att

end
-- ==== Proof.AttFinite.lean ====
/- What the precondition of the attention's claim says: the queries and the keys are real numbers, and so are the scores. -/
module

public import proofs.«01_k».proof.Pre_finite_scores
public import proofs.«01_k».proof.Proof.AttArray
public import Idealize.ShloMosaic.Lib.ReduceAll

@[expose] public section

set_option maxRecDepth 16384

noncomputable section

open Idealize.ShloMosaic

namespace Cert.Pre_finite_scores

/-- The side conditions of the precondition's operations. -/
instance facts : Facts where
  bitsLt_bf16_f32 := by decide
  bcast_S_S16384x1024 := by decide
  reducesTo_S16384x1024_S_d0_1 := by decide
  h_S_ := by decide
  bcast_S_S8x1024x2048 := by decide
  reducesTo_S8x1024x2048_S_d0_1_2 := by decide

/-- The f32 pattern of infinity is the extended reals' top. -/
theorem ofBits_top : Ideal.ofBits .f32 0x7F800000#32 = ⊤ := by simp [Ideal.ofBits, Ideal.ieee]

/-- A number whose absolute value is below infinity is real. -/
theorem real_of_abs_lt (x : EReal) (h : Ideal.cmp .olt (max x (-x)) (Ideal.ofBits .f32 0x7F800000#32) = 1#1) : ∃ y : ℝ, x = (y : EReal) := by
  rw [ofBits_top] at h
  induction x using EReal.rec with
  | bot => simp [Ideal.cmp] at h
  | coe y => exact ⟨y, rfl⟩
  | top => simp [Ideal.cmp] at h

instance : Subsingleton S_.Idx := ⟨fun _ _ => funext fun a => a.elim0⟩

/-- Under the precondition every query and every key is a real number. -/
theorem real_of_pre (q : FVec Ideal S16384x1024 .bf16) (kt : FVec Ideal S8x1024x2048 .bf16) (v : FVec Ideal S16384x1024 .bf16)
    (h : fn (F := Ideal) q kt v = fun _ => 1#1) : (∀ i, ∃ x : ℝ, q i = (x : EReal)) ∧ ∀ i, ∃ x : ℝ, kt i = (x : EReal) := by
  have e := congrFun h (fun a => a.elim0)
  obtain ⟨h1, h2⟩ := IntOp.andi_eq_one.1 e
  exact ⟨fun i => real_of_abs_lt _ (Host.reduce_andi_all _ _ _ _ _ h1 i), fun i => real_of_abs_lt _ (Host.reduce_andi_all _ _ _ _ _ h2 i)⟩

end Cert.Pre_finite_scores

namespace Cert.KernelIdeal.Att

open Cert.KernelIdeal Cert.Att

/-- Scores of real queries and real keys are real. -/
theorem real_scores (q : S16384x1024.Idx → EReal) (kt : S8x1024x2048.Idx → EReal) (hq : ∀ i, ∃ x : ℝ, q i = (x : EReal))
    (hk : ∀ i, ∃ x : ℝ, kt i = (x : EReal)) : Real' q kt := by
  intro n g s
  choose x hx using hq
  choose y hy using hk
  have e : score' q kt n g s = ((∑ e : Fin 64, x (ix2 n ⟨g.val * 64 + e.val, by omega⟩)
      * y (ix3 ⟨n.val / 2048, by omega⟩ ⟨g.val * 64 + e.val, by omega⟩ s) : ℝ) : EReal) := by
    rw [coe_sum']
    exact Finset.sum_congr rfl fun e _ => by rw [hx, hy, EReal.coe_mul]
  unfold scoreR
  rw [dif_pos s.isLt]
  rw [e, EReal.toReal_coe]

end Cert.KernelIdeal.Att

end
-- ==== Proof.AttReference.lean ====
/- What the plain attention computes at an index. -/
module

public import proofs.«01_k».proof.Proof.AttArray
public import proofs.«01_k».proof.Proof.Gen.ReferenceIdeal.Read
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceIdeal.Att

open Cert.ReferenceIdeal Cert.ReferenceIdeal.Gen Cert.ReferenceIdeal.Read Cert.Att Cert.KernelIdeal.Att

/-! ## The sum over a window that reaches to the end of a row -/

/-- A left fold by addition is a sum. -/
theorem foldl_add {ι : Type} (g : ι → EReal) (l : List ι) (a : EReal) : l.foldl (fun r n => r + g n) a = a + (l.map g).sum := by
  induction l generalizing a with
  | nil => simp
  | cons b l ih => rw [List.foldl_cons, ih, List.map_cons, List.sum_cons, add_assoc]

/-- A row's element at a position, 0 past the end. -/
def rowAt (x : S8x16x2048x2048.Idx → EReal) (b : Fin 8) (g : Fin 16) (t : Fin 2048) (n : ℕ) : EReal :=
  if h : n < 2048 then x (ix4 b g t ⟨n, h⟩) else 0

/-- The shape of a window. -/
abbrev Win : Shape := ⟨4, ![1, 1, 1, 2048]⟩

/-- A window's positions, in order: the last coordinate counts. -/
theorem win_coord (n : Fin Win.numel) : (Win.rowMajor.symm n 0).val = 0 ∧ (Win.rowMajor.symm n 1).val = 0
    ∧ (Win.rowMajor.symm n 2).val = 0 ∧ (Win.rowMajor.symm n 3).val = n.val := by
  have e := Shape.rowMajor_val_four (d := ![1, 1, 1, 2048]) (Win.rowMajor.symm n)
  rw [Equiv.apply_symm_apply] at e
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  change n.val = (((Win.rowMajor.symm n 0).val * 1 + (Win.rowMajor.symm n 1).val) * 1 + (Win.rowMajor.symm n 2).val) * 2048
    + (Win.rowMajor.symm n 3).val at e
  omega

/-- The running sum from the right: the elements of the row from a position on. -/
theorem window_sum (x : S8x16x2048x2048.Idx → EReal) (init : S_.Idx → EReal) (h) (hu : 0 < S_.numel) (hi : ∀ i, init i = 0)
    (b : Fin 8) (g : Fin 16) (t s : Fin 2048) :
    Host.reduceWindowAdd (F := Ideal) (φ := .f32) (s := S8x16x2048x2048) (t := S8x16x2048x2048) ![1, 1, 1, 2048] ![1, 1, 1, 1] ![0, 0, 0, 0] ![0, 0, 0, 2047]
        x init h hu (ix4 b g t s) = ∑ n ∈ Finset.Ico s.val 2048, rowAt x b g t n := by
  show Ideal.hostReduceWindowAdd _ _ _ _ h x (init _) _ = _
  unfold Ideal.hostReduceWindowAdd Host.reduceWindow
  rw [hi]
  dsimp only
  refine (foldl_add _ _ _).trans ?_
  rw [zero_add, ← Fin.sum_univ_def]
  refine (Finset.sum_congr (g := fun n : Fin Win.numel => rowAt x b g t (s.val + n.val)) rfl fun n _ => ?_).trans ?_
  · obtain ⟨w0, w1, w2, w3⟩ := win_coord n
    unfold rowAt
    by_cases hs : s.val + n.val < 2048
    · refine ((dif_pos ?_).trans ?_).trans (dif_pos hs).symm
      · intro a
        match a with
        | ⟨0, _⟩ => show 0 ≤ b.val * 1 + (Win.rowMajor.symm n 0).val ∧ b.val * 1 + (Win.rowMajor.symm n 0).val - 0 < 8; omega
        | ⟨1, _⟩ => show 0 ≤ g.val * 1 + (Win.rowMajor.symm n 1).val ∧ g.val * 1 + (Win.rowMajor.symm n 1).val - 0 < 16; omega
        | ⟨2, _⟩ => show 0 ≤ t.val * 1 + (Win.rowMajor.symm n 2).val ∧ t.val * 1 + (Win.rowMajor.symm n 2).val - 0 < 2048; omega
        | ⟨3, _⟩ => show 0 ≤ s.val * 1 + (Win.rowMajor.symm n 3).val ∧ s.val * 1 + (Win.rowMajor.symm n 3).val - 0 < 2048; omega
      · refine congrArg x (funext fun a => Fin.ext ?_)
        match a with
        | ⟨0, _⟩ => show b.val * 1 + (Win.rowMajor.symm n 0).val - 0 = b.val; omega
        | ⟨1, _⟩ => show g.val * 1 + (Win.rowMajor.symm n 1).val - 0 = g.val; omega
        | ⟨2, _⟩ => show t.val * 1 + (Win.rowMajor.symm n 2).val - 0 = t.val; omega
        | ⟨3, _⟩ => show s.val * 1 + (Win.rowMajor.symm n 3).val - 0 = s.val + n.val; omega
    · rw [dif_neg hs]
      refine dif_neg fun hin => ?_
      have h3 := (hin 3).2
      change s.val * 1 + (Win.rowMajor.symm n 3).val - 0 < 2048 at h3
      omega
  have hN : Win.numel = 2048 := by decide
  rw [Fin.sum_univ_eq_sum_range (fun n => rowAt x b g t (s.val + n)) Win.numel, hN, Finset.sum_Ico_eq_sum_range]
  refine (Finset.sum_subset (Finset.range_subset_range.mpr (Nat.sub_le 2048 s.val)) fun n _ hn => ?_).symm
  unfold rowAt
  rw [dif_neg]
  rw [Finset.mem_range] at hn
  omega

/-! ## The operations in order -/

/-- The softplus as the plain program writes it, at a real number. -/
theorem softplus_plain (x : ℝ) :
    max (x : EReal) 0 + Ideal.log1p (Ideal.exp (-(max (x : EReal) (-(x : EReal))))) = (sp x : EReal) := by
  show max (x : EReal) 0 + Ideal.log (1 + _) = _
  rw [← EReal.coe_neg, coe_max', ← EReal.coe_neg, Ideal.exp_coe, ← EReal.coe_zero, coe_max']
  rw [show max x (-x) = |x| from rfl]
  refine (congrArg _ (log_one_add_exp (-|x|))).trans ?_
  rw [← EReal.coe_add, sp_abs]

variable (q : FVec Ideal S16384x1024 .bf16) (kt : FVec Ideal S8x1024x2048 .bf16) (v : FVec Ideal S16384x1024 .bf16)

/-- The row of the arrays that position `t` of batch `b` is. -/
def row (b : Fin 8) (t : Fin 2048) : Fin 16384 := ⟨b.val * 2048 + t.val, by omega⟩

/-- The score at an index. -/
theorem score_apply (b : Fin 8) (g : Fin 16) (t s : Fin 2048) :
    val_main_v12 (F := Ideal) q kt (ix4 b g t s) = score' q kt (row b t) g s := by
  unfold score' row
  pointwise [val_main_v12, val_main_v3, val_main_v2, val_main_v1, val_main_v0]
  have e : (b.val * 2048 + t.val) / 2048 = b.val := by omega
  simp only [e]

/-- The mask at an index. -/
theorem mask_apply (t s : Fin 2048) : val_main_v11 (F := Ideal) (ix2 t s) = if s.val < t.val then 1#1 else 0#1 := by
  pointwise [val_main_v11, val_main_v10, val_main_v9, val_main_v8, val_main_v7, val_main_v6]
  rw [WordCmp.cmpi_slt_ofNat (by omega) (by omega)]
  by_cases h : s.val < t.val <;> simp [h]

/-- The masked softplus at an index. -/
theorem masked_apply (x : ℝ) (b : Fin 8) (g : Fin 16) (t s : Fin 2048) (hx : score' q kt (row b t) g s = (x : EReal)) :
    val_main_v14 (F := Ideal) q kt (ix4 b g t s) = if s.val < t.val then (sp x : EReal) else 0 := by
  have hv : val_main_v13 (F := Ideal) q kt (ix4 b g t s) = (sp x : EReal) := by
    have e := (score_apply q kt b g t s).trans hx
    revert e
    unfold val_main_v13 val_main_call0_v11 val_main_call0_v10 val_main_call0_v9 val_main_call0_v8 val_main_call0_v7 val_main_call0_v6
      val_main_call0_v4 val_main_call0_v3 val_main_call0_v1
    generalize val_main_v12 (F := Ideal) q kt = z
    intro e
    pointwise [val_main_call0_v5, val_main_call0_v2, val_main_call0_v0, val_main_call0_cst]
    rw [e, if_neg (not_not.mpr rfl)]
    exact softplus_plain x
  have hm := mask_apply t s
  revert hv hm
  unfold val_main_v14 val_main_call1_v1
  generalize val_main_v13 (F := Ideal) q kt = y
  generalize val_main_v11 (F := Ideal) = mk
  intro hv hm
  pointwise [val_main_call1_v2, val_main_call1_v0, val_main_cst]
  rw [hv, hm]
  by_cases h : s.val < t.val
  · rw [if_pos h, if_pos h]; rfl
  · rw [if_neg h, if_neg h]; exact Ideal.ofBits_zero_f32

/-- The logarithm of the sigmoid at an index. -/
theorem logSigmoid_apply (x : ℝ) (b : Fin 8) (g : Fin 16) (t s : Fin 2048) (hx : score' q kt (row b t) g s = (x : EReal)) :
    val_main_v17 (F := Ideal) q kt (ix4 b g t s) = ((x - sp x : ℝ) : EReal) := by
  have e := (score_apply q kt b g t s).trans hx
  revert e
  unfold val_main_v17 val_main_call3_v1 val_main_call3_call0_v11 val_main_call3_call0_v10 val_main_call3_call0_v9 val_main_call3_call0_v8
    val_main_call3_call0_v7 val_main_call3_call0_v6 val_main_call3_call0_v4 val_main_call3_call0_v3 val_main_call3_call0_v1 val_main_call3_v0
  generalize val_main_v12 (F := Ideal) q kt = z
  intro e
  pointwise [val_main_call3_call0_v5, val_main_call3_call0_v2, val_main_call3_call0_v0, val_main_call3_call0_cst]
  rw [e, if_neg (not_not.mpr rfl), ← EReal.coe_neg]
  refine (congrArg Neg.neg (softplus_plain (-x))).trans ?_
  rw [sp_neg, ← EReal.coe_neg, neg_sub]

section
variable (z : ℕ → ℝ) (b : Fin 8) (g : Fin 16) (t s : Fin 2048) (hz : ∀ n : Fin 2048, score' q kt (row b t) g n = (z n.val : EReal))
include hz

/-- The softplus of the positions from `s` on and before `t`. -/
theorem suffix_apply (h : s.val < t.val) : val_main_v15 (F := Ideal) q kt (ix4 b g t s) = (run z s.val t.val : EReal) := by
  have hm : ∀ n : ℕ, n ∈ Finset.Ico s.val 2048 →
      rowAt (val_main_v14 (F := Ideal) q kt) b g t n = if n < t.val then (sp (z n) : EReal) else 0 := by
    intro n hn
    have h' : n < 2048 := (Finset.mem_Ico.mp hn).2
    unfold rowAt
    rw [dif_pos h']
    exact masked_apply q kt (z n) b g t ⟨n, h'⟩ (hz ⟨n, h'⟩)
  unfold val_main_v15
  rw [window_sum _ _ _ _ (fun i => by pointwise [val_main_call2_v0, val_main_call2_cst]), Finset.sum_congr rfl hm, run, coe_sum',
    ← Finset.sum_filter]
  refine Finset.sum_congr ?_ fun _ _ => rfl
  ext n
  simp only [Finset.mem_filter, Finset.mem_Ico]
  omega

/-- The weight at an index. -/
theorem weight_apply : val_main_v20 (F := Ideal) q kt (ix4 b g t s) = if s.val < t.val then (wt z t.val s.val : EReal) else 0 := by
  have hm := mask_apply t s
  by_cases h : s.val < t.val
  · have e15 := suffix_apply q kt z b g t s hz h
    have e14 := masked_apply q kt _ b g t s (hz s)
    have e17 := logSigmoid_apply q kt _ b g t s (hz s)
    revert hm e14 e15 e17
    unfold val_main_v20 val_main_call4_v1 val_main_v19 val_main_v18 val_main_v16
    generalize val_main_v11 (F := Ideal) = mk
    generalize val_main_v14 (F := Ideal) q kt = y14
    generalize val_main_v15 (F := Ideal) q kt = y15
    generalize val_main_v17 (F := Ideal) q kt = y17
    intro hm e15 e14 e17
    pointwise [val_main_call4_v2, val_main_call4_v0, val_main_cst_0]
    rw [if_pos h] at hm e14
    rw [hm, e14, e15, e17, if_pos h, ← EReal.coe_sub, ← EReal.coe_sub, Ideal.exp_coe, wt]
    show ((_ : ℝ) : EReal) = _
    congr 2
    ring
  · revert hm
    unfold val_main_v20 val_main_call4_v1
    generalize val_main_v11 (F := Ideal) = mk
    generalize val_main_v19 (F := Ideal) q kt = y19
    intro hm
    pointwise [val_main_call4_v2, val_main_call4_v0, val_main_cst_0]
    rw [hm, if_neg h, if_neg h]
    exact Ideal.ofBits_zero_f32

end

/-- The plain attention at an index, when the scores are real. -/
theorem attn_apply (hr : Real' q kt) (n : Fin 16384) (l : Fin 1024) : val_main_v24 (F := Ideal) q kt v (ix2 n l) = attn q kt v n l := by
  have hw := fun s => weight_apply q kt (scoreR q kt n ⟨l.val / 64, by omega⟩) ⟨n.val / 2048, by omega⟩ ⟨l.val / 64, by omega⟩ ⟨n.val % 2048, by omega⟩ s
    (fun k => by
      have e : row ⟨n.val / 2048, by omega⟩ ⟨n.val % 2048, by omega⟩ = n := by apply Fin.ext; simp only [row]; omega
      rw [e]
      exact hr _ _ _)
  have e : val_main_v24 (F := Ideal) q kt v (ix2 n l)
      = ∑ s : Fin 2048, v (ix2 ⟨n.val / 2048 * 2048 + s.val, by omega⟩ l)
          * val_main_v20 (F := Ideal) q kt (ix4 ⟨n.val / 2048, by omega⟩ ⟨l.val / 64, by omega⟩ ⟨n.val % 2048, by omega⟩ s) := by
    unfold val_main_v24 val_main_v23 val_main_v22 val_main_v21
    generalize val_main_v20 (F := Ideal) q kt = y20
    pointwise [val_main_v5, val_main_v4]
  rw [e]
  simp only [hw]
  unfold attn out
  have hf : ∀ s : Fin 2048, v (ix2 ⟨n.val / 2048 * 2048 + s.val, by omega⟩ l)
        * (if s.val < n.val % 2048 then (wt (scoreR q kt n ⟨l.val / 64, by omega⟩) (n.val % 2048) s.val : EReal) else 0)
      = (fun k : ℕ => if k < n.val % 2048 then (wt (scoreR q kt n ⟨l.val / 64, by omega⟩) (n.val % 2048) k : EReal) * valueR v n l k else 0) s.val := by
    intro s
    dsimp only
    unfold valueR
    rw [dif_pos s.isLt]
    by_cases h : s.val < n.val % 2048
    · rw [if_pos h, if_pos h, mul_comm]
    · rw [if_neg h, if_neg h, mul_zero]
  refine (Finset.sum_congr rfl fun s _ => hf s).trans ?_
  rw [Fin.sum_univ_eq_sum_range (fun k : ℕ => if k < n.val % 2048 then (wt (scoreR q kt n ⟨l.val / 64, by omega⟩) (n.val % 2048) k : EReal) * valueR v n l k else 0) 2048,
    ← Finset.sum_filter]
  refine Finset.sum_congr ?_ fun _ _ => rfl
  ext k
  simp only [Finset.mem_filter, Finset.mem_range, Finset.mem_Ico]
  omega

end Cert.ReferenceIdeal.Att

end
-- ==== Proof.AttClaim.lean ====
/- The two programs of the stick-breaking attention, the tiled one and the plain one, leave equal results. -/
module

public import proofs.«01_k».proof.Defs
public import proofs.«01_k».proof.Proof.AttTable
public import proofs.«01_k».proof.Proof.AttFinite
public import proofs.«01_k».proof.Proof.AttReference
public import proofs.«01_k».proof.Proof.Gen.KernelIdeal.Value
public import proofs.«01_k».proof.Proof.Gen.ReferenceIdeal.Run
public import Idealize.ShloMosaic.Lib.IdealHost

@[expose] public section

set_option maxRecDepth 16384

noncomputable section

open Idealize.ShloMosaic Idealize.ShloMosaic.TcCoe Idealize.SL.Sem

namespace Cert.KernelIdeal.Att

open Cert.KernelIdeal Cert.KernelIdeal.Gen

/-- The constant operand is two upper triangles of ones, one below the other. -/
theorem isTable_const : IsTable fun i => FloatOps.ofBits (F := Ideal) .bf16 (lit0 (S512x256.rowMajor i)) := by
  intro x s
  have e : lit0 (S512x256.rowMajor (ix2 x s)) = lit0t (x.val * 256 + s.val) :=
    congrArg lit0t (Shape.rowMajor_val_two (d := ![512, 256]) (ix2 x s))
  show FloatOps.ofBits (F := Ideal) .bf16 (lit0 (S512x256.rowMajor (ix2 x s))) = _
  rw [e, lit0t_eq _ (by omega)]
  have e1 : (x.val * 256 + s.val) % 256 = s.val := by omega
  have e2 : (x.val * 256 + s.val) / 256 % 256 = x.val % 256 := by omega
  rw [e1, e2]
  by_cases h : s.val ≤ x.val % 256
  · rw [if_pos h, if_pos h]; exact Ideal.ofBits_one_bf16
  · rw [if_neg h, if_neg h]; exact Ideal.ofBits_zero_bf16

end Cert.KernelIdeal.Att

namespace Cert.Proof

/-- From the same queries, keys and values, the queries and keys finite, the tiled attention and the plain one end with
    equal results. -/
theorem att : Cert.algebraic_KernelIdeal_ReferenceIdeal_pre_finite_scores (hPre_finite_scores := Cert.Pre_finite_scores.facts) := by
  pair_intro
  · run_from Cert.KernelIdeal.Value.run_blocks m g
  · run_from Cert.ReferenceIdeal.Value.run m' g'
    rw [Cert.ReferenceIdeal.Read.val_main_v24_eq]
    obtain ⟨hq, hk⟩ := Cert.Pre_finite_scores.real_of_pre _ _ _ (hpre c)
    have hr := Cert.KernelIdeal.Att.real_scores _ _ hq hk
    obtain ⟨e0, e1, e2⟩ := hagree c
    rw [e0, e1, e2]
    refine Eq.trans ?_ (Cert.KernelIdeal.Att.final4 m Cert.KernelIdeal.Att.isTable_const c hr).symm
    funext i
    obtain ⟨r, j, rfl⟩ : ∃ (r : Fin 16384) (j : Fin 1024), i = ix2 r j := ⟨i 0, i 1, eq_ix2 i⟩
    exact Cert.ReferenceIdeal.Att.attn_apply _ _ _ hr r j

end Cert.Proof

end
-- ==== Proof.TailRow.lean ====
/- One row of the end of a layer, as a function of one row of its two inputs and of the weights; and the proof that the
   tiled body computes this function at every row of its block.

   The formulas are stated over the extended reals. A sum of products may overflow to an infinity, and nothing below needs it
   not to: the tiled text and the plain text perform the same operations on a row, in the same order. -/
module

public import proofs.«01_k».proof.Proof.Gen.TailIdeal.Skeleton
public import Idealize.ShloMosaic.Lib.Pointwise

@[expose] public section

set_option maxRecDepth 16384

noncomputable section

open Idealize.ShloMosaic

namespace Cert.TailRow

/-- Layer norm of a row `y` at feature `j`: centre, divide by the root of the mean square plus a small constant, scale by `g`
    and shift by `b`. The three constants are the numbers that the printed words denote: 1024 and 1e-5. -/
def layerNorm (y g b : Fin 1024 → EReal) (j : Fin 1024) : EReal :=
  let mean := Ideal.div (∑ k, y k) (Ideal.ofBits .f32 0x44800000#32)
  let var := Ideal.div (∑ k, (y k - mean) * (y k - mean)) (Ideal.ofBits .f32 0x44800000#32)
  (y j - mean) * Ideal.rsqrt (var + Ideal.ofBits .f32 0x3727C5AC#32) * g j + b j

/-- The row after the mixer's output projection, its residual and the first norm. -/
def mixed (x mix : Fin 1024 → EReal) (wo : Fin 1024 → Fin 1024 → EReal) (g b : Fin 1024 → EReal) : Fin 1024 → EReal :=
  layerNorm (fun j => Ideal.ofBits .f32 0x3FB504F3#32 * x j + ∑ k, mix k * wo k j) g b

/-- The hidden units of the feed-forward part. -/
def hidden (y : Fin 1024 → EReal) (wu : Fin 1024 → Fin 4096 → EReal) (u : Fin 4096) : EReal :=
  max (∑ k, y k * wu k u) 0

/-- The row after the feed-forward part (the hidden units squared), its residual and the second norm. -/
def fed (y : Fin 1024 → EReal) (h : Fin 4096 → EReal) (wd : Fin 4096 → Fin 1024 → EReal) (g b : Fin 1024 → EReal) :
    Fin 1024 → EReal :=
  layerNorm (fun j => Ideal.ofBits .f32 0x3FB504F3#32 * y j + ∑ u, h u * h u * wd u j) g b

/-- The whole row. -/
def row (x mix : Fin 1024 → EReal) (wo : Fin 1024 → Fin 1024 → EReal) (g1 b1 : Fin 1024 → EReal)
    (wu : Fin 1024 → Fin 4096 → EReal) (wd : Fin 4096 → Fin 1024 → EReal) (g2 b2 : Fin 1024 → EReal) : Fin 1024 → EReal :=
  fed (mixed x mix wo g1 b1) (hidden (mixed x mix wo g1 b1) wu) wd g2 b2

end Cert.TailRow

namespace Cert.TailIdeal.Row

open Cert.TailIdeal Cert.TailIdeal.Gen

/-- The body's first norm, at row `r` of its block. -/
theorem pay2_apply (x : Vec Ideal S512x1024 .f32) (mix : Vec Ideal S512x1024 .bf16) (wo : Vec Ideal S1024x1024 .bf16)
    (g b : Vec Ideal S1x1024 .f32) (r : Fin 512) (j : Fin 1024) :
    k0_pay2 x mix wo g b (ix2 r j) = TailRow.mixed (fun j => x (ix2 r j)) (fun k => mix (ix2 r k)) (fun k j => wo (ix2 k j))
      (fun j => g (ix2 0 j)) (fun j => b (ix2 0 j)) j := by
  pointwise [k0_pay2, TailRow.mixed, TailRow.layerNorm]

/-- The body's hidden units, at row `r` of its block. -/
theorem pay3_apply (x : Vec Ideal S512x1024 .f32) (mix : Vec Ideal S512x1024 .bf16) (wo : Vec Ideal S1024x1024 .bf16)
    (g b : Vec Ideal S1x1024 .f32) (wu : Vec Ideal S1024x4096 .bf16) (r : Fin 512) (u : Fin 4096) :
    k0_pay3 x mix wo g b wu (ix2 r u) = TailRow.hidden (fun k => k0_pay2 x mix wo g b (ix2 r k)) (fun k u => wu (ix2 k u)) u := by
  pointwise [k0_pay3, TailRow.hidden]

/-- The body's second norm, at row `r` of its block. -/
theorem pay1_apply (y : FVec Ideal S512x1024 .f32) (h : FVec Ideal S512x4096 .f32) (wd : Vec Ideal S4096x1024 .bf16)
    (g b : Vec Ideal S1x1024 .f32) (r : Fin 512) (j : Fin 1024) :
    k0_pay1 y h wd g b (ix2 r j) = TailRow.fed (fun j => y (ix2 r j)) (fun u => h (ix2 r u)) (fun u j => wd (ix2 u j))
      (fun j => g (ix2 0 j)) (fun j => b (ix2 0 j)) j := by
  pointwise [k0_pay1, TailRow.fed, TailRow.layerNorm]

/-- What the body stores, at row `r` of its block: the row function of row `r` of the two input blocks. -/
theorem body_apply (x : Vec Ideal S512x1024 .f32) (mix : Vec Ideal S512x1024 .bf16) (wo : Vec Ideal S1024x1024 .bf16)
    (g1 b1 : Vec Ideal S1x1024 .f32) (wu : Vec Ideal S1024x4096 .bf16) (wd : Vec Ideal S4096x1024 .bf16)
    (g2 b2 : Vec Ideal S1x1024 .f32) (r : Fin 512) (j : Fin 1024) :
    k0_pay1 (k0_pay2 x mix wo g1 b1) (k0_pay3 x mix wo g1 b1 wu) wd g2 b2 (ix2 r j)
      = TailRow.row (fun j => x (ix2 r j)) (fun k => mix (ix2 r k)) (fun k j => wo (ix2 k j)) (fun j => g1 (ix2 0 j))
          (fun j => b1 (ix2 0 j)) (fun k u => wu (ix2 k u)) (fun u j => wd (ix2 u j)) (fun j => g2 (ix2 0 j))
          (fun j => b2 (ix2 0 j)) j := by
  rw [pay1_apply]
  simp only [pay3_apply, pay2_apply]
  rfl

end Cert.TailIdeal.Row

end
-- ==== Proof.TailValue.lean ====
/- What the tiled end of a layer leaves in its result array: the row function of `TailRow`, row by row. -/
module

public import proofs.«01_k».proof.Proof.TailRow
public import proofs.«01_k».proof.Proof.Gen.TailIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.TailIdeal.Row

open Cert.TailIdeal Cert.TailIdeal.Gen

variable (m : (ℓ : Loc nD τ sig) → Buf (Elt Ideal) ℓ)

/-- The result array: at `(r, j)`, the row function of rows `r` of the two inputs. -/
def result (c : Dev nD) : Buf (Elt Ideal) ((c : Thread nD τ).loc main_v7) := fun (i : S16384x1024.Idx) =>
  TailRow.row (fun j => m ((c : Thread nD τ).loc main_arg0) (ix2 (i 0) j)) (fun k => m ((c : Thread nD τ).loc main_arg1) (ix2 (i 0) k))
    (fun k j => m ((c : Thread nD τ).loc main_arg2) (ix2 k j)) (fun j => m ((c : Thread nD τ).loc main_arg3) (ix1 j))
    (fun j => m ((c : Thread nD τ).loc main_arg4) (ix1 j)) (fun k u => m ((c : Thread nD τ).loc main_arg5) (ix2 k u))
    (fun u j => m ((c : Thread nD τ).loc main_arg6) (ix2 u j)) (fun j => m ((c : Thread nD τ).loc main_arg7) (ix1 j))
    (fun j => m ((c : Thread nD τ).loc main_arg8) (ix1 j)) (i 1)

/-- Where each window's block lies: the two inputs and the result move down by one block of rows at each point, the weights
    stay. -/
theorem idx (t : Fin cfg0.N) : win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0]) t

/-- Row `r` of the block at point `t` is row `512 t + r` of the array. -/
def blockRow (t : Fin cfg0.N) (r : Fin 512) : Fin 16384 :=
  ⟨512 * t.val + r.val, by have : t.val < 32 := t.isLt; omega⟩

/-- The first input's block. -/
theorem blk0 (c : Dev nD) (t : Fin cfg0.N) (r : Fin 512) (j : Fin 1024) :
    iblk m c 0 t (ix2 r j) = m ((c : Thread nD τ).loc main_arg0) (ix2 (blockRow t r) j) := by
  have e := (idx t).1
  unfold blockRow
  blk_ext! [iblk, V, e]

/-- The mixed values' block. -/
theorem blk1 (c : Dev nD) (t : Fin cfg0.N) (r : Fin 512) (j : Fin 1024) :
    iblk m c 1 t (ix2 r j) = m ((c : Thread nD τ).loc main_arg1) (ix2 (blockRow t r) j) := by
  have e := (idx t).2.1
  unfold blockRow
  blk_ext! [iblk, V, e]

/-- The output projection: the whole array at every point. -/
theorem blk2 (c : Dev nD) (t : Fin cfg0.N) (k j : Fin 1024) :
    iblk m c 2 t (ix2 k j) = m ((c : Thread nD τ).loc main_arg2) (ix2 k j) := by
  have e := (idx t).2.2.1
  blk_ext! [iblk, V, e]

/-- The first norm's scale. -/
theorem blk3 (c : Dev nD) (t : Fin cfg0.N) (j : Fin 1024) :
    iblk m c 3 t (ix2 0 j) = m ((c : Thread nD τ).loc main_arg3) (ix1 j) := by
  have e := (idx t).2.2.2.1
  blk_ext! [iblk, V, e]

/-- The first norm's shift. -/
theorem blk4 (c : Dev nD) (t : Fin cfg0.N) (j : Fin 1024) :
    iblk m c 4 t (ix2 0 j) = m ((c : Thread nD τ).loc main_arg4) (ix1 j) := by
  have e := (idx t).2.2.2.2.1
  blk_ext! [iblk, V, e]

/-- The weights into the hidden units. -/
theorem blk5 (c : Dev nD) (t : Fin cfg0.N) (k : Fin 1024) (u : Fin 4096) :
    iblk m c 5 t (ix2 k u) = m ((c : Thread nD τ).loc main_arg5) (ix2 k u) := by
  have e := (idx t).2.2.2.2.2.1
  blk_ext! [iblk, V, e]

/-- The weights out of the hidden units. -/
theorem blk6 (c : Dev nD) (t : Fin cfg0.N) (u : Fin 4096) (j : Fin 1024) :
    iblk m c 6 t (ix2 u j) = m ((c : Thread nD τ).loc main_arg6) (ix2 u j) := by
  have e := (idx t).2.2.2.2.2.2.1
  blk_ext! [iblk, V, e]

/-- The second norm's scale. -/
theorem blk7 (c : Dev nD) (t : Fin cfg0.N) (j : Fin 1024) :
    iblk m c 7 t (ix2 0 j) = m ((c : Thread nD τ).loc main_arg7) (ix1 j) := by
  have e := (idx t).2.2.2.2.2.2.2.1
  blk_ext! [iblk, V, e]

/-- The second norm's shift. -/
theorem blk8 (c : Dev nD) (t : Fin cfg0.N) (j : Fin 1024) :
    iblk m c 8 t (ix2 0 j) = m ((c : Thread nD τ).loc main_arg8) (ix1 j) := by
  have e := (idx t).2.2.2.2.2.2.2.2.1
  blk_ext! [iblk, V, e]

/-- Where the result's block lies. -/
theorem emb9 (t : Fin cfg0.N) (r : Fin 512) (j : Fin 1024) :
    ((cfg0.win 9).blk t).view.emb (ix2 r j) = ix2 (blockRow t r) j := by
  have e := (idx t).2.2.2.2.2.2.2.2.2
  unfold blockRow
  blk_ext [e]

/-- The result array after the run. -/
theorem final (c : Dev nD) : (dats m 0 c).arrAt 9 cfg0.N = result m c := by
  refine (dats m 0 c).arrAt_eq_of_covers 9 _ (by decide +kernel) fun t hf y => ?_
  obtain ⟨r, j, rfl⟩ : ∃ (r : Fin 512) (j : Fin 1024), y = ix2 r j := ⟨y 0, y 1, eq_ix2 y⟩
  rw [emb9]
  blk_simp
  rw [after0_9]
  frame_out
  rw [body_apply]
  simp only [blk0, blk1, blk2, blk3, blk4, blk5, blk6, blk7, blk8]
  rfl

end Cert.TailIdeal.Row

end
-- ==== Proof.TailReference.lean ====
/- What the plain program of the end of a layer computes at an index: the row function of `TailRow`. -/
module

public import proofs.«01_k».proof.Proof.TailRow
public import proofs.«01_k».proof.Proof.Gen.TailReferenceIdeal.Read

@[expose] public section

set_option maxRecDepth 16384

noncomputable section

open Idealize.ShloMosaic Idealize.ShloMosaic.TcCoe Idealize.SL.Sem

namespace Cert.TailReferenceIdeal.Row

open Cert.TailReferenceIdeal Cert.TailReferenceIdeal.Gen Cert.TailReferenceIdeal.Read

variable (x : FVec Ideal S16384x1024 .f32) (mix : FVec Ideal S16384x1024 .bf16) (wo : FVec Ideal S1024x1024 .f32)
  (g1 b1 : FVec Ideal S1024 .f32) (wu : FVec Ideal S1024x4096 .f32) (wd : FVec Ideal S4096x1024 .f32)
  (g2 b2 : FVec Ideal S1024 .f32)

/-- The first residual sum, at an index. -/
theorem sum1_apply (r : Fin 16384) (j : Fin 1024) :
    val_main_v4 (F := Ideal) x mix wo (ix2 r j)
      = Ideal.ofBits .f32 0x3FB504F3#32 * x (ix2 r j) + ∑ k : Fin 1024, mix (ix2 r k) * wo (ix2 k j) := by
  pointwise [val_main_v4, val_main_v1, val_main_v0, val_main_cst, val_main_v3, val_main_v2]

/-- The first norm, at an index. -/
theorem norm1_apply (r : Fin 16384) (j : Fin 1024) :
    val_main_v26 (F := Ideal) x mix wo g1 b1 (ix2 r j)
      = TailRow.mixed (fun j => x (ix2 r j)) (fun k => mix (ix2 r k)) (fun k j => wo (ix2 k j)) (fun j => g1 (ix1 j))
          (fun j => b1 (ix1 j)) j := by
  unfold TailRow.mixed
  simp only [← sum1_apply]
  pointwise [val_main_v26, val_main_v25, val_main_v24, val_main_v23, val_main_v22, val_main_v21, val_main_v20, val_main_v19,
    val_main_v18, val_main_v17, val_main_v16, val_main_cst_4, val_main_v15, val_main_v14, val_main_cst_3, val_main_v13,
    val_main_v12, val_main_cst_2, val_main_v11, val_main_v10, val_main_v9, val_main_v8, val_main_v7, val_main_cst_1,
    val_main_v6, val_main_v5, val_main_cst_0, TailRow.layerNorm]

/-- The hidden units, at an index. -/
theorem hidden_apply (r : Fin 16384) (u : Fin 4096) :
    val_main_v28 (F := Ideal) x mix wo g1 b1 wu (ix2 r u)
      = TailRow.hidden (fun k => val_main_v26 (F := Ideal) x mix wo g1 b1 (ix2 r k)) (fun k u => wu (ix2 k u)) u := by
  pointwise [val_main_v28, val_main_v27, val_main_call0_v0, val_main_call0_cst, TailRow.hidden]

/-- The second residual sum, at an index. -/
theorem sum2_apply (r : Fin 16384) (j : Fin 1024) :
    val_main_v33 (F := Ideal) x mix wo g1 b1 wu wd (ix2 r j)
      = Ideal.ofBits .f32 0x3FB504F3#32 * val_main_v26 (F := Ideal) x mix wo g1 b1 (ix2 r j)
        + ∑ u : Fin 4096, val_main_v28 (F := Ideal) x mix wo g1 b1 wu (ix2 r u)
            * val_main_v28 (F := Ideal) x mix wo g1 b1 wu (ix2 r u) * wd (ix2 u j) := by
  pointwise [val_main_v33, val_main_v32, val_main_v31, val_main_v30, val_main_v29, val_main_cst_5]

/-- The second norm, at an index, from the second residual sum. -/
theorem norm2_apply (r : Fin 16384) (j : Fin 1024) :
    val_main_v55 (F := Ideal) x mix wo g1 b1 wu wd g2 b2 (ix2 r j)
      = TailRow.layerNorm (fun j => val_main_v33 (F := Ideal) x mix wo g1 b1 wu wd (ix2 r j)) (fun j => g2 (ix1 j))
          (fun j => b2 (ix1 j)) j := by
  pointwise [val_main_v55, val_main_v54, val_main_v53, val_main_v52, val_main_v51, val_main_v50, val_main_v49, val_main_v48,
    val_main_v47, val_main_v46, val_main_v45, val_main_cst_10, val_main_v44, val_main_v43, val_main_cst_9, val_main_v42,
    val_main_v41, val_main_cst_8, val_main_v40, val_main_v39, val_main_v38, val_main_v37, val_main_v36, val_main_cst_7,
    val_main_v35, val_main_v34, val_main_cst_6, TailRow.layerNorm]

/-- The plain program's result at an index: the row function of the rows of its inputs. -/
theorem result_apply (r : Fin 16384) (j : Fin 1024) :
    val_main_v55 (F := Ideal) x mix wo g1 b1 wu wd g2 b2 (ix2 r j)
      = TailRow.row (fun j => x (ix2 r j)) (fun k => mix (ix2 r k)) (fun k j => wo (ix2 k j)) (fun j => g1 (ix1 j))
          (fun j => b1 (ix1 j)) (fun k u => wu (ix2 k u)) (fun u j => wd (ix2 u j)) (fun j => g2 (ix1 j))
          (fun j => b2 (ix1 j)) j := by
  rw [norm2_apply]
  simp only [sum2_apply, hidden_apply, norm1_apply]
  rfl

end Cert.TailReferenceIdeal.Row

end
-- ==== Proof.TailClaim.lean ====
/- The two programs of the end of a layer, the tiled one and the plain one, leave equal results. -/
module

public import proofs.«01_k».proof.Defs
public import proofs.«01_k».proof.Proof.TailValue
public import proofs.«01_k».proof.Proof.TailReference
public import proofs.«01_k».proof.Proof.Gen.TailReferenceIdeal.Run

@[expose] public section

set_option maxRecDepth 16384

noncomputable section

open Idealize.ShloMosaic Idealize.ShloMosaic.TcCoe Idealize.SL.Sem

namespace Cert.Proof

/-- From the same arguments the tiled end of a layer and the plain one end with equal results: each of the 16384 rows of
    the tiled program's array is the row function of that row's inputs, and so is each row of the plain program's. -/
theorem tail : Cert.algebraic_TailIdeal_TailReferenceIdeal := by
  pair_intro
  · run_from Cert.TailIdeal.Value.run_blocks m g
  · run_from Cert.TailReferenceIdeal.Value.run m' g'
    rw [Cert.TailReferenceIdeal.Read.val_main_v55_eq, Cert.TailIdeal.Row.final]
    obtain ⟨h0, h1, h2, h3, h4, h5, h6, h7, h8⟩ := hagree c
    rw [h0, h1, h2, h3, h4, h5, h6, h7, h8]
    funext i
    obtain ⟨r, j, rfl⟩ : ∃ (r : Fin 16384) (j : Fin 1024), i = ix2 r j := ⟨i 0, i 1, eq_ix2 i⟩
    rw [Cert.TailReferenceIdeal.Row.result_apply]
    rfl

end Cert.Proof

end
-- ==== Proof.ProjRow.lean ====
/- The stick-breaking layer's projections, entry by entry: the scaled query, and one column of keys or values. -/
module

public import Idealize.ShloMosaic.PureOps.Ideal

@[expose] public section

noncomputable section

open Idealize.ShloMosaic

namespace Cert.ProjRow

/-- One projected entry: the row of activations against one column of the weights. -/
def entry (x w : Fin 1024 → EReal) : EReal := ∑ k : Fin 1024, x k * w k

/-- One entry of the queries: projected, then scaled by one eighth (the word `0x3E000000`). -/
def query (x w : Fin 1024 → EReal) : EReal := entry x w * Ideal.ofBits .f32 0x3E000000#32

end Cert.ProjRow

end
-- ==== Proof.ProjValue.lean ====
/- What the tiled projection of the prompt leaves in its four result arrays. -/
module

public import proofs.«01_k».proof.Proof.ProjRow
public import proofs.«01_k».proof.Proof.Gen.ProjIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjIdeal.Row

open Cert.ProjIdeal Cert.ProjIdeal.Gen

variable (m : (ℓ : Loc nD τ sig) → Buf (Elt Ideal) ℓ)

/-- The activations of one position: the prompt's positions laid one batch after another, row `r` is position `r % 2048` of
    batch `r / 2048`. -/
def actRow (x : S8x2048x1024.Idx → EReal) (r : Fin 16384) (k : Fin 1024) : EReal :=
  x (ix3 ⟨r.val / 2048, by omega⟩ ⟨r.val % 2048, by omega⟩ k)

/-- The queries' array: entry `(r, j)` is row `r`'s query against column `j` of the weights. -/
def queries (c : Dev nD) : Buf (Elt Ideal) ((c : Thread nD τ).loc main_v7_0) := fun (i : S16384x1024.Idx) =>
  ProjRow.query (actRow (m ((c : Thread nD τ).loc main_arg0)) (i 0))
    (fun k => m ((c : Thread nD τ).loc main_arg1) (ix3 0 k ⟨(i 1).val, Nat.lt_trans (i 1).isLt (by decide)⟩))

/-- The values' array: entry `(r, j)` is row `r` against column `2048 + j` of the weights. -/
def values (c : Dev nD) : Buf (Elt Ideal) ((c : Thread nD τ).loc main_v7_1) := fun (i : S16384x1024.Idx) =>
  ProjRow.entry (actRow (m ((c : Thread nD τ).loc main_arg0)) (i 0))
    (fun k => m ((c : Thread nD τ).loc main_arg1) (ix3 0 k ⟨2048 + (i 1).val, by have : (i 1).val < 1024 := (i 1).isLt; omega⟩))

/-- The keys' and values' array, one row per column of the weights: entry `(b, j, s)` is position `s` of batch `b` against
    column `1024 + j`. -/
def keysValues (c : Dev nD) : Buf (Elt Ideal) ((c : Thread nD τ).loc main_v7_2) := fun (i : S8x2048x2048.Idx) =>
  ProjRow.entry (fun k => m ((c : Thread nD τ).loc main_arg0) (ix3 (i 0) (i 2) k))
    (fun k => m ((c : Thread nD τ).loc main_arg1) (ix3 0 k ⟨1024 + (i 1).val, by have : (i 1).val < 2048 := (i 1).isLt; omega⟩))

/-- The keys' array, one row per column of the weights. -/
def keys (c : Dev nD) : Buf (Elt Ideal) ((c : Thread nD τ).loc main_v7_3) := fun (i : S8x1024x2048.Idx) =>
  ProjRow.entry (fun k => m ((c : Thread nD τ).loc main_arg0) (ix3 (i 0) (i 2) k))
    (fun k => m ((c : Thread nD τ).loc main_arg1) (ix3 0 k ⟨1024 + (i 1).val, by have : (i 1).val < 1024 := (i 1).isLt; omega⟩))

/-- Where each window's block lies: the activations, the queries and the values move down by one block of rows at each of
    the 64 points, the weights stay, and the transposed keys and values move along the positions of a batch, eight blocks to
    a batch. -/
theorem idx (t : Fin cfg0.N) : win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val / 8, 0, t.val % 8] ∧ win0_7.index t = ![t.val / 8, 0, t.val % 8] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0]
    ∧ win0_6.index t = ![t.val / 8, 0, t.val % 8] ∧ win0_7.index t = ![t.val / 8, 0, t.val % 8]) t

/-- Row `r` of the block at point `t` is row `256 t + r` of the array. -/
def blockRow (t : Fin cfg0.N) (r : Fin 256) : Fin 16384 :=
  ⟨256 * t.val + r.val, by have : t.val < 64 := t.isLt; omega⟩

/-- The batch that point `t` works on. -/
def blockBatch (t : Fin cfg0.N) : Fin 8 := ⟨t.val / 8, by have : t.val < 64 := t.isLt; omega⟩

/-- Position `r` of the block at point `t` is position `256 (t % 8) + r` of its batch. -/
def blockPos (t : Fin cfg0.N) (r : Fin 256) : Fin 2048 := ⟨256 * (t.val % 8) + r.val, by omega⟩

/-- The activations' block. -/
theorem blk0 (c : Dev nD) (t : Fin cfg0.N) (r : Fin 256) (k : Fin 1024) :
    iblk m c 0 t (ix2 r k) = m ((c : Thread nD τ).loc main_arg0) (ix3 (blockBatch t) (blockPos t r) k) := by
  have e := (idx t).1
  unfold blockBatch blockPos
  blk_ext! [iblk, V, e]

/-- The activations' block, as rows laid one batch after another. -/
theorem actRow_eq (c : Dev nD) (t : Fin cfg0.N) (r : Fin 256) (k : Fin 1024) :
    m ((c : Thread nD τ).loc main_arg0) (ix3 (blockBatch t) (blockPos t r) k)
      = actRow (m ((c : Thread nD τ).loc main_arg0)) (blockRow t r) k := by
  have e0 : blockBatch t = ⟨(blockRow t r).val / 2048, by omega⟩ := by
    apply Fin.ext; simp only [blockBatch, blockRow]; omega
  have e1 : blockPos t r = ⟨(blockRow t r).val % 2048, by omega⟩ := by
    apply Fin.ext; simp only [blockPos, blockRow]; omega
  rw [e0, e1]; rfl

/-- The queries' weights. -/
theorem blk1 (c : Dev nD) (t : Fin cfg0.N) (k j : Fin 1024) :
    iblk m c 1 t (ix2 k j) = m ((c : Thread nD τ).loc main_arg1) (ix3 0 k ⟨j.val, by omega⟩) := by
  have e := (idx t).2.1
  blk_ext! [iblk, V, e]

/-- The values' weights. -/
theorem blk2 (c : Dev nD) (t : Fin cfg0.N) (k j : Fin 1024) :
    iblk m c 2 t (ix2 k j) = m ((c : Thread nD τ).loc main_arg1) (ix3 0 k ⟨2048 + j.val, by omega⟩) := by
  have e := (idx t).2.2.1
  blk_ext! [iblk, V, e]

/-- The keys' and values' weights, transposed. -/
theorem blk3 (c : Dev nD) (t : Fin cfg0.N) (j : Fin 2048) (k : Fin 1024) :
    iblk m c 3 t (ix2 j k) = m ((c : Thread nD τ).loc main_arg1) (ix3 0 k ⟨1024 + j.val, by omega⟩) := by
  have e := (idx t).2.2.2.1
  blk_ext! [iblk, V, e]

/-- Where the queries' block lies. -/
theorem emb4 (t : Fin cfg0.N) (r : Fin 256) (j : Fin 1024) : ((cfg0.win 4).blk t).view.emb (ix2 r j) = ix2 (blockRow t r) j := by
  have e := (idx t).2.2.2.2.1
  unfold blockRow
  blk_ext [e]

/-- Where the values' block lies. -/
theorem emb5 (t : Fin cfg0.N) (r : Fin 256) (j : Fin 1024) : ((cfg0.win 5).blk t).view.emb (ix2 r j) = ix2 (blockRow t r) j := by
  have e := (idx t).2.2.2.2.2.1
  unfold blockRow
  blk_ext [e]

/-- Where the keys' and values' block lies. -/
theorem emb6 (t : Fin cfg0.N) (j : Fin 2048) (r : Fin 256) :
    ((cfg0.win 6).blk t).view.emb (ix3 0 j r) = ix3 (blockBatch t) j (blockPos t r) := by
  have e := (idx t).2.2.2.2.2.2.1
  unfold blockBatch blockPos
  blk_ext [e]

/-- Where the keys' block lies. -/
theorem emb7 (t : Fin cfg0.N) (j : Fin 1024) (r : Fin 256) :
    ((cfg0.win 7).blk t).view.emb (ix3 0 j r) = ix3 (blockBatch t) j (blockPos t r) := by
  have e := (idx t).2.2.2.2.2.2.2
  unfold blockBatch blockPos
  blk_ext [e]

/-- The queries the body stores, at an index. -/
theorem pay2_apply (x : Vec Ideal S256x1024 .f32) (w : Vec Ideal S1024x1024 .bf16) (r : Fin 256) (j : Fin 1024) :
    k0_pay2 x w (ix2 r j) = ProjRow.query (fun k => x (ix2 r k)) (fun k => w (ix2 k j)) := by
  pointwise [k0_pay2, k0_pay1, ProjRow.query, ProjRow.entry]

/-- The values the body stores, at an index. -/
theorem pay3_apply (x : Vec Ideal S256x1024 .f32) (w : Vec Ideal S1024x1024 .bf16) (r : Fin 256) (j : Fin 1024) :
    k0_pay3 x w (ix2 r j) = ProjRow.entry (fun k => x (ix2 r k)) (fun k => w (ix2 k j)) := by
  pointwise [k0_pay3, k0_pay1, ProjRow.entry]

/-- The keys and values the body stores, at an index: the product is written weights first. -/
theorem pay5_apply (x : Vec Ideal S256x1024 .f32) (w : Vec Ideal S2048x1024 .bf16) (j : Fin 2048) (r : Fin 256) :
    k0_pay5 x w (ix3 0 j r) = ProjRow.entry (fun k => x (ix2 r k)) (fun k => w (ix2 j k)) := by
  pointwise! [k0_pay5, k0_pay4, k0_pay1, ProjRow.entry]

/-- The keys the body stores, at an index: the first half of the same product. -/
theorem pay6_apply (x : Vec Ideal S256x1024 .f32) (w : Vec Ideal S2048x1024 .bf16) (j : Fin 1024) (r : Fin 256) :
    k0_pay6 x w (ix3 0 j r) = ProjRow.entry (fun k => x (ix2 r k)) (fun k => w (ix2 ⟨j.val, by omega⟩ k)) := by
  pointwise! [k0_pay6, k0_pay4, k0_pay1, ProjRow.entry]

/-- The queries' array after the run. -/
theorem final4 (c : Dev nD) : (dats m 0 c).arrAt 4 cfg0.N = queries m c := by
  refine (dats m 0 c).arrAt_eq_of_covers 4 _ (by decide +kernel) fun t hf y => ?_
  obtain ⟨r, j, rfl⟩ : ∃ (r : Fin 256) (j : Fin 1024), y = ix2 r j := ⟨y 0, y 1, eq_ix2 y⟩
  rw [emb4]
  blk_simp
  rw [after0_4]
  frame_out
  rw [pay2_apply]
  simp only [blk0, blk1, actRow_eq]
  rfl

/-- The values' array after the run. -/
theorem final5 (c : Dev nD) : (dats m 0 c).arrAt 5 cfg0.N = values m c := by
  refine (dats m 0 c).arrAt_eq_of_covers 5 _ (by decide +kernel) fun t hf y => ?_
  obtain ⟨r, j, rfl⟩ : ∃ (r : Fin 256) (j : Fin 1024), y = ix2 r j := ⟨y 0, y 1, eq_ix2 y⟩
  rw [emb5]
  blk_simp
  rw [after0_5]
  frame_out
  rw [pay3_apply]
  simp only [blk0, blk2, actRow_eq]
  rfl

/-- The keys' and values' array after the run. -/
theorem final6 (c : Dev nD) : (dats m 0 c).arrAt 6 cfg0.N = keysValues m c := by
  refine (dats m 0 c).arrAt_eq_of_covers 6 _ (by decide +kernel) fun t hf y => ?_
  obtain ⟨z, j, r, rfl⟩ : ∃ (z : Fin 1) (j : Fin 2048) (r : Fin 256), y = ix3 z j r := ⟨y 0, y 1, y 2, eq_ix3 y⟩
  obtain rfl : z = 0 := Subsingleton.elim _ _
  rw [emb6]
  blk_simp
  rw [after0_6]
  frame_out
  rw [pay5_apply]
  simp only [blk0, blk3]
  rfl

/-- The keys' array after the run. -/
theorem final7 (c : Dev nD) : (dats m 0 c).arrAt 7 cfg0.N = keys m c := by
  refine (dats m 0 c).arrAt_eq_of_covers 7 _ (by decide +kernel) fun t hf y => ?_
  obtain ⟨z, j, r, rfl⟩ : ∃ (z : Fin 1) (j : Fin 1024) (r : Fin 256), y = ix3 z j r := ⟨y 0, y 1, y 2, eq_ix3 y⟩
  obtain rfl : z = 0 := Subsingleton.elim _ _
  rw [emb7]
  blk_simp
  rw [after0_7]
  frame_out
  rw [pay6_apply]
  simp only [blk0, blk3]
  rfl

end Cert.ProjIdeal.Row

end
-- ==== Proof.ProjReference.lean ====
/- What the plain projection of the prompt computes at an index. -/
module

public import proofs.«01_k».proof.Proof.ProjRow
public import proofs.«01_k».proof.Proof.Gen.ProjReferenceIdeal.Read
public import Idealize.ShloMosaic.Lib.Pointwise

@[expose] public section

set_option maxRecDepth 16384

noncomputable section

open Idealize.ShloMosaic Idealize.ShloMosaic.TcCoe Idealize.SL.Sem

namespace Cert.ProjReferenceIdeal.Row

open Cert.ProjReferenceIdeal Cert.ProjReferenceIdeal.Gen Cert.ProjReferenceIdeal.Read

variable (x : FVec Ideal S8x2048x1024 .f32) (w : FVec Ideal S1x1024x3072 .f32)

/-- The queries at an index. -/
theorem queries_apply (r : Fin 16384) (j : Fin 1024) :
    val_main_v10 (F := Ideal) x w (ix2 r j)
      = ProjRow.query (fun k => x (ix3 ⟨r.val / 2048, by omega⟩ ⟨r.val % 2048, by omega⟩ k))
          (fun k => w (ix3 0 k ⟨j.val, by omega⟩)) := by
  pointwise [val_main_v10, val_main_v9, val_main_v8, val_main_v7, val_main_cst, val_main_v2, val_main_v1, val_main_v0,
    ProjRow.query, ProjRow.entry]

/-- The values at an index. -/
theorem values_apply (r : Fin 16384) (j : Fin 1024) :
    val_main_v12 (F := Ideal) x w (ix2 r j)
      = ProjRow.entry (fun k => x (ix3 ⟨r.val / 2048, by omega⟩ ⟨r.val % 2048, by omega⟩ k))
          (fun k => w (ix3 0 k ⟨2048 + j.val, by omega⟩)) := by
  pointwise [val_main_v12, val_main_v11, val_main_v4, val_main_v1, val_main_v0, ProjRow.entry]

/-- The transposed keys and values at an index: the first 1024 rows are the keys, the others the values. -/
theorem keysValues_apply (b : Fin 8) (j s : Fin 2048) :
    val_main_v13 (F := Ideal) x w (ix3 b j s)
      = ProjRow.entry (fun k => x (ix3 b s k)) (fun k => w (ix3 0 k ⟨1024 + j.val, by omega⟩)) := by
  pointwise [val_main_v13, val_main_v6, val_main_v5, val_main_v4, val_main_v3, val_main_v1, val_main_v0, ProjRow.entry]
  by_cases h : j.val < 1024
  · simp only [h, ↓reduceDIte]
  · have e : 2048 + (j.val - 1024) = 1024 + j.val := by omega
    simp only [h, e, ↓reduceDIte]

/-- The transposed keys at an index. -/
theorem keys_apply (b : Fin 8) (j : Fin 1024) (s : Fin 2048) :
    val_main_v14 (F := Ideal) x w (ix3 b j s)
      = ProjRow.entry (fun k => x (ix3 b s k)) (fun k => w (ix3 0 k ⟨1024 + j.val, by omega⟩)) := by
  pointwise [val_main_v14, val_main_v5, val_main_v3, val_main_v1, val_main_v0, ProjRow.entry]

end Cert.ProjReferenceIdeal.Row

end
-- ==== Proof.ProjClaim.lean ====
/- The two programs of the prompt's projection, the tiled one and the plain one, leave equal results. -/
module

public import proofs.«01_k».proof.Defs
public import proofs.«01_k».proof.Proof.ProjValue
public import proofs.«01_k».proof.Proof.ProjReference
public import proofs.«01_k».proof.Proof.Gen.ProjReferenceIdeal.Run

@[expose] public section

set_option maxRecDepth 16384

noncomputable section

open Idealize.ShloMosaic Idealize.ShloMosaic.TcCoe Idealize.SL.Sem

namespace Cert.Proof

/-- From the same arguments the tiled projection of the prompt and the plain one end with equal queries, values, transposed
    keys and values, and transposed keys. -/
theorem proj : Cert.algebraic_ProjIdeal_ProjReferenceIdeal := by
  pair_intro
  · run_from Cert.ProjIdeal.Value.run_blocks m g
  · run_from Cert.ProjReferenceIdeal.Value.run m' g'
    · rw [Cert.ProjReferenceIdeal.Read.val_main_v10_eq, Cert.ProjIdeal.Row.final4]
      funext i
      obtain ⟨r, j, rfl⟩ : ∃ (r : Fin 16384) (j : Fin 1024), i = ix2 r j := ⟨i 0, i 1, eq_ix2 i⟩
      rw [Cert.ProjReferenceIdeal.Row.queries_apply]
      rfl
    · rw [Cert.ProjReferenceIdeal.Read.val_main_v12_eq, Cert.ProjIdeal.Row.final5]
      funext i
      obtain ⟨r, j, rfl⟩ : ∃ (r : Fin 16384) (j : Fin 1024), i = ix2 r j := ⟨i 0, i 1, eq_ix2 i⟩
      rw [Cert.ProjReferenceIdeal.Row.values_apply]
      rfl
    · rw [Cert.ProjReferenceIdeal.Read.val_main_v13_eq, Cert.ProjIdeal.Row.final6]
      funext i
      obtain ⟨b, j, s, rfl⟩ : ∃ (b : Fin 8) (j s : Fin 2048), i = ix3 b j s := ⟨i 0, i 1, i 2, eq_ix3 i⟩
      rw [Cert.ProjReferenceIdeal.Row.keysValues_apply]
      rfl
    · rw [Cert.ProjReferenceIdeal.Read.val_main_v14_eq, Cert.ProjIdeal.Row.final7]
      funext i
      obtain ⟨b, j, s, rfl⟩ : ∃ (b : Fin 8) (j : Fin 1024) (s : Fin 2048), i = ix3 b j s := ⟨i 0, i 1, i 2, eq_ix3 i⟩
      rw [Cert.ProjReferenceIdeal.Row.keys_apply]
      rfl

end Cert.Proof

end
-- ==== Proof.RowsValue.lean ====
/- What the projection of the sampled rows leaves in its two result arrays. -/
module

public import proofs.«01_k».proof.Proof.ProjRow
public import proofs.«01_k».proof.Proof.Gen.RowsIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RowsIdeal.Row

open Cert.RowsIdeal Cert.RowsIdeal.Gen

variable (m : (ℓ : Loc nD τ sig) → Buf (Elt Ideal) ℓ)

/-- The queries' array: entry `(r, j)` is row `r`'s query against column `j` of the weights. -/
def queries (c : Dev nD) : Buf (Elt Ideal) ((c : Thread nD τ).loc main_v5_0) := fun (i : S32x1024.Idx) =>
  ProjRow.query (fun k => m ((c : Thread nD τ).loc main_arg0) (ix3 (i 0) 0 k))
    (fun k => m ((c : Thread nD τ).loc main_arg1) (ix3 0 k ⟨(i 1).val, Nat.lt_trans (i 1).isLt (by decide)⟩))

/-- The keys' and values' array: entry `(r, j)` is row `r` against column `1024 + j` of the weights. -/
def keysValues (c : Dev nD) : Buf (Elt Ideal) ((c : Thread nD τ).loc main_v5_1) := fun (i : S32x2048.Idx) =>
  ProjRow.entry (fun k => m ((c : Thread nD τ).loc main_arg0) (ix3 (i 0) 0 k))
    (fun k => m ((c : Thread nD τ).loc main_arg1) (ix3 0 k ⟨1024 + (i 1).val, by have : (i 1).val < 2048 := (i 1).isLt; omega⟩))

/-- Each window's block is the whole of its array, at the one grid point. -/
theorem idx (t : Fin cfg0.N) : win0_0.index t = ![0, 0] ∧ win0_1.index t = ![0, 0] ∧ win0_2.index t = ![0, 0]
    ∧ win0_3.index t = ![0, 0] ∧ win0_4.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0]) t

/-- The activations' block. -/
theorem blk0 (c : Dev nD) (t : Fin cfg0.N) (r : Fin 32) (k : Fin 1024) :
    iblk m c 0 t (ix2 r k) = m ((c : Thread nD τ).loc main_arg0) (ix3 r 0 k) := by
  have e := (idx t).1
  blk_ext! [iblk, V, e]

/-- The queries' weights. -/
theorem blk1 (c : Dev nD) (t : Fin cfg0.N) (k j : Fin 1024) :
    iblk m c 1 t (ix2 k j) = m ((c : Thread nD τ).loc main_arg1) (ix3 0 k ⟨j.val, by omega⟩) := by
  have e := (idx t).2.1
  blk_ext! [iblk, V, e]

/-- The keys' and values' weights. -/
theorem blk2 (c : Dev nD) (t : Fin cfg0.N) (k : Fin 1024) (j : Fin 2048) :
    iblk m c 2 t (ix2 k j) = m ((c : Thread nD τ).loc main_arg1) (ix3 0 k ⟨1024 + j.val, by omega⟩) := by
  have e := (idx t).2.2.1
  blk_ext! [iblk, V, e]

/-- Where the queries' block lies. -/
theorem emb3 (t : Fin cfg0.N) (r : Fin 32) (j : Fin 1024) : ((cfg0.win 3).blk t).view.emb (ix2 r j) = ix2 r j := by
  have e := (idx t).2.2.2.1
  blk_ext [e]

/-- Where the keys' and values' block lies. -/
theorem emb4 (t : Fin cfg0.N) (r : Fin 32) (j : Fin 2048) : ((cfg0.win 4).blk t).view.emb (ix2 r j) = ix2 r j := by
  have e := (idx t).2.2.2.2
  blk_ext [e]

/-- The queries the body stores, at an index. -/
theorem pay2_apply (x : Vec Ideal S32x1024 .f32) (w : Vec Ideal S1024x1024 .bf16) (r : Fin 32) (j : Fin 1024) :
    k0_pay2 x w (ix2 r j) = ProjRow.query (fun k => x (ix2 r k)) (fun k => w (ix2 k j)) := by
  pointwise [k0_pay2, k0_pay1, ProjRow.query, ProjRow.entry]

/-- The keys and values the body stores, at an index. -/
theorem pay3_apply (x : Vec Ideal S32x1024 .f32) (w : Vec Ideal S1024x2048 .bf16) (r : Fin 32) (j : Fin 2048) :
    k0_pay3 x w (ix2 r j) = ProjRow.entry (fun k => x (ix2 r k)) (fun k => w (ix2 k j)) := by
  pointwise [k0_pay3, k0_pay1, ProjRow.entry]

/-- The queries' array after the run. -/
theorem final3 (c : Dev nD) : (dats m 0 c).arrAt 3 cfg0.N = queries m c := by
  refine (dats m 0 c).arrAt_eq_of_covers 3 _ (by decide +kernel) fun t hf y => ?_
  obtain ⟨r, j, rfl⟩ : ∃ (r : Fin 32) (j : Fin 1024), y = ix2 r j := ⟨y 0, y 1, eq_ix2 y⟩
  rw [emb3]
  blk_simp
  rw [after0_3]
  frame_out
  rw [pay2_apply]
  simp only [blk0, blk1]
  rfl

/-- The keys' and values' array after the run. -/
theorem final4 (c : Dev nD) : (dats m 0 c).arrAt 4 cfg0.N = keysValues m c := by
  refine (dats m 0 c).arrAt_eq_of_covers 4 _ (by decide +kernel) fun t hf y => ?_
  obtain ⟨r, j, rfl⟩ : ∃ (r : Fin 32) (j : Fin 2048), y = ix2 r j := ⟨y 0, y 1, eq_ix2 y⟩
  rw [emb4]
  blk_simp
  rw [after0_4]
  frame_out
  rw [pay3_apply]
  simp only [blk0, blk2]
  rfl

end Cert.RowsIdeal.Row

end
-- ==== Proof.RowsReference.lean ====
/- What the plain projection of the sampled rows computes at an index. -/
module

public import proofs.«01_k».proof.Proof.ProjRow
public import proofs.«01_k».proof.Proof.Gen.RowsReferenceIdeal.Read
public import Idealize.ShloMosaic.Lib.Pointwise

@[expose] public section

set_option maxRecDepth 16384

noncomputable section

open Idealize.ShloMosaic Idealize.ShloMosaic.TcCoe Idealize.SL.Sem

namespace Cert.RowsReferenceIdeal.Row

open Cert.RowsReferenceIdeal Cert.RowsReferenceIdeal.Gen Cert.RowsReferenceIdeal.Read

variable (x : FVec Ideal S32x1x1024 .f32) (w : FVec Ideal S1x1024x3072 .f32)

/-- The queries at an index. -/
theorem queries_apply (r : Fin 32) (j : Fin 1024) :
    val_main_v9 (F := Ideal) x w (ix2 r j)
      = ProjRow.query (fun k => x (ix3 r 0 k)) (fun k => w (ix3 0 k ⟨j.val, by omega⟩)) := by
  pointwise [val_main_v9, val_main_v8, val_main_v7, val_main_v6, val_main_cst, val_main_v2, val_main_v1, val_main_v0,
    ProjRow.query, ProjRow.entry]

/-- The keys and values at an index: the first 1024 columns are the keys, the others the values. -/
theorem keysValues_apply (r : Fin 32) (j : Fin 2048) :
    val_main_v10 (F := Ideal) x w (ix2 r j)
      = ProjRow.entry (fun k => x (ix3 r 0 k)) (fun k => w (ix3 0 k ⟨1024 + j.val, by omega⟩)) := by
  pointwise [val_main_v10, val_main_v5, val_main_v4, val_main_v3, val_main_v1, val_main_v0, ProjRow.entry]
  by_cases h : j.val < 1024
  · simp only [h, ↓reduceDIte]
  · have e : 2048 + (j.val - 1024) = 1024 + j.val := by omega
    simp only [h, e, ↓reduceDIte]

end Cert.RowsReferenceIdeal.Row

end
-- ==== Proof.RowsClaim.lean ====
/- The two programs of the sampled rows' projection, the tiled one and the plain one, leave equal results. -/
module

public import proofs.«01_k».proof.Defs
public import proofs.«01_k».proof.Proof.RowsValue
public import proofs.«01_k».proof.Proof.RowsReference
public import proofs.«01_k».proof.Proof.Gen.RowsReferenceIdeal.Run

@[expose] public section

set_option maxRecDepth 16384

noncomputable section

open Idealize.ShloMosaic Idealize.ShloMosaic.TcCoe Idealize.SL.Sem

namespace Cert.Proof

/-- From the same arguments the tiled projection of the sampled rows and the plain one end with equal queries and equal
    keys and values. -/
theorem rows : Cert.algebraic_RowsIdeal_RowsReferenceIdeal := by
  pair_intro
  · run_from Cert.RowsIdeal.Value.run_blocks m g
  · run_from Cert.RowsReferenceIdeal.Value.run m' g'
    · rw [Cert.RowsReferenceIdeal.Read.val_main_v9_eq, Cert.RowsIdeal.Row.final3]
      funext i
      obtain ⟨r, j, rfl⟩ : ∃ (r : Fin 32) (j : Fin 1024), i = ix2 r j := ⟨i 0, i 1, eq_ix2 i⟩
      rw [Cert.RowsReferenceIdeal.Row.queries_apply]
      rfl
    · rw [Cert.RowsReferenceIdeal.Read.val_main_v10_eq, Cert.RowsIdeal.Row.final4]
      funext i
      obtain ⟨r, j, rfl⟩ : ∃ (r : Fin 32) (j : Fin 2048), i = ix2 r j := ⟨i 0, i 1, eq_ix2 i⟩
      rw [Cert.RowsReferenceIdeal.Row.keysValues_apply]
      rfl

end Cert.Proof

end
-- ==== Proof.NsaRow.lean ====
/- The sparse layer's gates, entry by entry. -/
module

public import proofs.«01_k».proof.Proof.ProjRow
public import Idealize.ShloMosaic.PureOps.Ideal.Laws

@[expose] public section

noncomputable section

open Idealize.ShloMosaic

namespace Cert.NsaRow

/-- One gate: the sigmoid of a projected entry. -/
def gate (x w : Fin 1024 → EReal) : EReal := Ideal.logistic (ProjRow.entry x w)

/-- Weights that are zero give one half, whatever the activations are. -/
theorem gate_zero (x : Fin 1024 → EReal) : gate x (fun _ => 0) = Ideal.ofBits .f32 0x3F000000#32 := by
  have e : Ideal.ofBits .f32 0x3F000000#32 = (((2 : ℝ)⁻¹ : ℝ) : EReal) := by
    simp [Ideal.ofBits, Ideal.ieee]
    rw [← EReal.coe_mul]
    norm_num
  have z : ProjRow.entry x (fun _ => 0) = ((0 : ℝ) : EReal) := by
    simp [ProjRow.entry]
  rw [gate, z, Ideal.logistic_coe, e]
  norm_num

/-- The gates of one position with those of the lower half of the heads in the first 128 lanes and those of the upper half
    in the others: lane `128 h + 8 g + n` with `g < 3` holds gate `g` of head `8 h + n`, the lanes past these hold one half. -/
def paired (x : Fin 1024 → EReal) (w : Fin 1024 → Fin 2608 → EReal) (l : Fin 256) : EReal :=
  if h : l.val % 128 < 24 then
    gate x (fun k => w k ⟨2560 + (16 * (l.val % 128 / 8) + 8 * (l.val / 128) + l.val % 8), by omega⟩)
  else Ideal.ofBits .f32 0x3F000000#32

/-- The gates of one position in the order of their columns, then one half up to 128 lanes. -/
def single (x : Fin 1024 → EReal) (w : Fin 1024 → Fin 2608 → EReal) (l : Fin 128) : EReal :=
  if h : l.val < 48 then gate x (fun k => w k ⟨2560 + l.val, by omega⟩) else Ideal.ofBits .f32 0x3F000000#32

end Cert.NsaRow

end
-- ==== Proof.NsaProjHost.lean ====
/- What the host has prepared when the sparse layer's tiled projection of the prompt begins. -/
module

public import proofs.«01_k».proof.Proof.NsaRow
public import proofs.«01_k».proof.Proof.Gen.NsaProjIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NsaProjIdeal.Row

open Cert.NsaProjIdeal Cert.NsaProjIdeal.Gen

variable (m : (ℓ : Loc nD τ sig) → Buf (Elt Ideal) ℓ)

/-- The activations at an index. -/
def act (c : Dev nD) (r : Fin 16384) (k : Fin 1024) : EReal := m ((c : Thread nD τ).loc main_arg0) (ix2 r k)

/-- The weights at an index. -/
def weight (c : Dev nD) (k : Fin 1024) (j : Fin 2608) : EReal := m ((c : Thread nD τ).loc main_arg1) (ix3 0 k j)

/-- The weights that the region finds for the queries. -/
theorem queryWeights (c : Dev nD) (k j : Fin 1024) : V m c main_v2 (ix2 k j) = weight m c k ⟨j.val, by omega⟩ := by
  unfold_abbrev_sides
  rw [List.flatten_cons, List.flatten_cons, List.flatten_cons, List.flatten_nil]
  simp only [List.append_nil, List.cons_append, List.nil_append]
  after_results
  unfold weight
  pointwise

/-- The weights that the region finds for the compressed branch. -/
theorem branchWeights (c : Dev nD) (k : Fin 1024) (j : Fin 512) : V m c main_v6 (ix2 k j) = weight m c k ⟨1024 + j.val, by omega⟩ := by
  unfold_abbrev_sides
  rw [List.flatten_cons, List.flatten_cons, List.flatten_cons, List.flatten_nil]
  simp only [List.append_nil, List.cons_append, List.nil_append]
  after_results
  unfold weight
  pointwise

/-- The weights that the region finds for the gates, those of the lower half of the heads in the first 128 lanes, zero past the gates. -/
theorem gateWeights (c : Dev nD) (k : Fin 1024) (l : Fin 256) : V m c main_v12 (ix2 k l) = if h : l.val % 128 < 24 then
      weight m c k ⟨2560 + (16 * (l.val % 128 / 8) + 8 * (l.val / 128) + l.val % 8), by omega⟩ else (0 : EReal) := by
  unfold_abbrev_sides
  rw [List.flatten_cons, List.flatten_cons, List.flatten_cons, List.flatten_nil]
  simp only [List.append_nil, List.cons_append, List.nil_append]
  after_results
  pointwise
  simp -implicitDefEqProofs only [StableHlo.TRef.toBuf, StableHlo.TRef.ofBuf, cast_cast, cast_eq]
  pointwise
  have h2 : l.val / 128 < 2 := by omega
  by_cases h : l.val % 128 < 24
  · have e : (⟨2560 + (l.val % 128 / 8 * 16 + l.val / 128 * 8 + l.val % 128 % 8), by omega⟩ : Fin 2608)
        = ⟨2560 + (16 * (l.val % 128 / 8) + 8 * (l.val / 128) + l.val % 8), by omega⟩ := Fin.ext (by dsimp only; omega)
    have key : ∀ a b : Fin 2608, a = b → m (c, Proc.tc.devRef main_arg1) (ix3 0 k a) = weight m c k b := by
      rintro a _ rfl
      rfl
    simp only [h, h2, and_self, ↓reduceDIte]
    exact key _ _ e
  · rw [dif_neg (fun q => h q.2), dif_neg h]
    show (((0#32 : BitVec 32).toInt : ℝ) : EReal) = 0
    simp

/-- The weights that the region finds for all keys and values, transposed. -/
theorem transposedWeights (c : Dev nD) (j : Fin 1536) (k : Fin 1024) : V m c main_v13 (ix2 j k) = weight m c k ⟨1024 + j.val, by omega⟩ := by
  unfold_abbrev_sides
  rw [List.flatten_cons, List.flatten_cons, List.flatten_cons, List.flatten_nil]
  simp only [List.append_nil, List.cons_append, List.nil_append]
  after_results
  unfold weight
  pointwise

end Cert.NsaProjIdeal.Row

end
-- ==== Proof.NsaProjValue.lean ====
/- What the sparse layer's tiled projection of the prompt leaves in its eight result arrays. -/
module

public import proofs.«01_k».proof.Proof.NsaRow
public import proofs.«01_k».proof.Proof.NsaProjHost
public import proofs.«01_k».proof.Proof.Gen.NsaProjIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NsaProjIdeal.Row

open Cert.NsaProjIdeal Cert.NsaProjIdeal.Gen

variable (m : (ℓ : Loc nD τ sig) → Buf (Elt Ideal) ℓ)

/-- The prompt's positions laid one batch after another: the row of position `s` of batch `b`. -/
def rowOf (b : Fin 8) (s : Fin 2048) : Fin 16384 := ⟨2048 * b.val + s.val, by omega⟩

/-- The queries' array: entry `(r, j)` is row `r`'s query against column `j` of the weights. -/
def queries (c : Dev nD) : Buf (Elt Ideal) ((c : Thread nD τ).loc main_v14_0) := fun (i : S16384x1024.Idx) =>
  ProjRow.query (act m c (i 0)) (fun k => weight m c k ⟨(i 1).val, Nat.lt_trans (i 1).isLt (by decide)⟩)

/-- The array of the compressed branch's keys and values: entry `(r, j)` is row `r` against column `1024 + j`. -/
def compressed (c : Dev nD) : Buf (Elt Ideal) ((c : Thread nD τ).loc main_v14_1) := fun (i : S16384x512.Idx) =>
  ProjRow.entry (act m c (i 0)) (fun k => weight m c k ⟨1024 + (i 1).val, by have : (i 1).val < 512 := (i 1).isLt; omega⟩)

/-- The gates' array. -/
def gates (c : Dev nD) : Buf (Elt Ideal) ((c : Thread nD τ).loc main_v14_2) := fun (i : S16384x256.Idx) =>
  NsaRow.paired (act m c (i 0)) (weight m c) (i 1)

/-- Keys and values of one branch feature by feature, its columns starting at column `1024 + o`: entry `(b, j, s)` is
    position `s` of batch `b` against column `1024 + o + j`. -/
def branch (c : Dev nD) (o : Nat) (ho : o ≤ 1024) (i : S8x512x2048.Idx) : EReal :=
  ProjRow.entry (act m c (rowOf (i 0) (i 2)))
    (fun k => weight m c k ⟨1024 + (o + (i 1).val), by have : (i 1).val < 512 := (i 1).isLt; omega⟩)

/-- Where each window's block lies: the rows move down by one block at each of the 64 points, the weights stay, and the
    transposed results move along the positions of a batch, eight blocks to a batch. -/
theorem idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, win0_0.index t = ![t.val, 0] ∧ win0_1.index t = ![0, 0]
    ∧ win0_2.index t = ![0, 0] ∧ win0_3.index t = ![0, 0] ∧ win0_4.index t = ![0, 0] ∧ win0_5.index t = ![t.val, 0]
    ∧ win0_6.index t = ![t.val, 0] ∧ win0_7.index t = ![t.val, 0]) t

/-- The transposed results' blocks move along the positions of a batch, eight blocks to a batch. -/
theorem idxT (t : Fin cfg0.N) : win0_8.index t = ![t.val / 8, 0, t.val % 8] ∧ win0_9.index t = ![t.val / 8, 0, t.val % 8]
    ∧ win0_10.index t = ![t.val / 8, 0, t.val % 8] ∧ win0_11.index t = ![t.val / 8, 0, t.val % 8]
    ∧ win0_12.index t = ![t.val / 8, 0, t.val % 8] :=
  (by decide +kernel : ∀ t : Fin grid0.N, win0_8.index t = ![t.val / 8, 0, t.val % 8]
    ∧ win0_9.index t = ![t.val / 8, 0, t.val % 8] ∧ win0_10.index t = ![t.val / 8, 0, t.val % 8]
    ∧ win0_11.index t = ![t.val / 8, 0, t.val % 8] ∧ win0_12.index t = ![t.val / 8, 0, t.val % 8]) t

/-- Row `r` of the block at point `t` is row `256 t + r` of the array. -/
def blockRow (t : Fin cfg0.N) (r : Fin 256) : Fin 16384 :=
  ⟨256 * t.val + r.val, by have : t.val < 64 := t.isLt; omega⟩

/-- The batch that point `t` works on. -/
def blockBatch (t : Fin cfg0.N) : Fin 8 := ⟨t.val / 8, by have : t.val < 64 := t.isLt; omega⟩

/-- Position `r` of the block at point `t` is position `256 (t % 8) + r` of its batch. -/
def blockPos (t : Fin cfg0.N) (r : Fin 256) : Fin 2048 := ⟨256 * (t.val % 8) + r.val, by omega⟩

/-- The two ways of saying which row it is agree. -/
theorem rowOf_block (t : Fin cfg0.N) (r : Fin 256) : rowOf (blockBatch t) (blockPos t r) = blockRow t r := by
  apply Fin.ext
  simp only [rowOf, blockBatch, blockPos, blockRow]
  omega

/-- The activations' block. -/
theorem blk0 (c : Dev nD) (t : Fin cfg0.N) (r : Fin 256) (k : Fin 1024) :
    iblk m c 0 t (ix2 r k) = act m c (blockRow t r) k := by
  have e := (idx t).1
  unfold act blockRow
  blk_ext! [iblk, V, e]

/-- The queries' weights. -/
theorem blk1 (c : Dev nD) (t : Fin cfg0.N) (k j : Fin 1024) : iblk m c 1 t (ix2 k j) = weight m c k ⟨j.val, by omega⟩ := by
  have e := (idx t).2.1
  have h : iblk m c 1 t (ix2 k j) = V m c main_v2 (ix2 k j) := by blk_ext [iblk, e]
  exact h.trans (queryWeights m c k j)

/-- The weights of the compressed branch. -/
theorem blk2 (c : Dev nD) (t : Fin cfg0.N) (k : Fin 1024) (j : Fin 512) :
    iblk m c 2 t (ix2 k j) = weight m c k ⟨1024 + j.val, by omega⟩ := by
  have e := (idx t).2.2.1
  have h : iblk m c 2 t (ix2 k j) = V m c main_v6 (ix2 k j) := by blk_ext [iblk, e]
  exact h.trans (branchWeights m c k j)

/-- The gates' weights, those of the lower half of the heads in the first 128 lanes, zero in the lanes past the gates. -/
theorem blk3 (c : Dev nD) (t : Fin cfg0.N) (k : Fin 1024) (l : Fin 256) :
    iblk m c 3 t (ix2 k l) = if h : l.val % 128 < 24 then
      weight m c k ⟨2560 + (16 * (l.val % 128 / 8) + 8 * (l.val / 128) + l.val % 8), by omega⟩ else (0 : EReal) := by
  have e := (idx t).2.2.2.1
  have h : iblk m c 3 t (ix2 k l) = V m c main_v12 (ix2 k l) := by blk_ext [iblk, e]
  exact h.trans (gateWeights m c k l)

/-- The keys' and values' weights, transposed. -/
theorem blk4 (c : Dev nD) (t : Fin cfg0.N) (j : Fin 1536) (k : Fin 1024) :
    iblk m c 4 t (ix2 j k) = weight m c k ⟨1024 + j.val, by omega⟩ := by
  have e := (idx t).2.2.2.2.1
  have h : iblk m c 4 t (ix2 j k) = V m c main_v13 (ix2 j k) := by blk_ext [iblk, e]
  exact h.trans (transposedWeights m c j k)

/-- Where the queries' block lies. -/
theorem emb5 (t : Fin cfg0.N) (r : Fin 256) (j : Fin 1024) : ((cfg0.win 5).blk t).view.emb (ix2 r j) = ix2 (blockRow t r) j := by
  have e := (idx t).2.2.2.2.2.1
  unfold blockRow
  blk_ext [e]

/-- Where the block of the compressed branch lies. -/
theorem emb6 (t : Fin cfg0.N) (r : Fin 256) (j : Fin 512) : ((cfg0.win 6).blk t).view.emb (ix2 r j) = ix2 (blockRow t r) j := by
  have e := (idx t).2.2.2.2.2.2.1
  unfold blockRow
  blk_ext [e]

/-- Where the gates' block lies. -/
theorem emb7 (t : Fin cfg0.N) (r : Fin 256) (j : Fin 256) : ((cfg0.win 7).blk t).view.emb (ix2 r j) = ix2 (blockRow t r) j := by
  have e := (idx t).2.2.2.2.2.2.2
  unfold blockRow
  blk_ext [e]

/-- Where the transposed block of the compressed branch lies. -/
theorem emb8 (t : Fin cfg0.N) (j : Fin 512) (r : Fin 256) :
    ((cfg0.win 8).blk t).view.emb (ix3 0 j r) = ix3 (blockBatch t) j (blockPos t r) := by
  have e := (idxT t).1
  unfold blockBatch blockPos
  blk_ext [e]

/-- Where the transposed block of the selected branch lies. -/
theorem emb9 (t : Fin cfg0.N) (j : Fin 512) (r : Fin 256) :
    ((cfg0.win 9).blk t).view.emb (ix3 0 j r) = ix3 (blockBatch t) j (blockPos t r) := by
  have e := (idxT t).2.1
  unfold blockBatch blockPos
  blk_ext [e]

/-- Where the transposed block of the window branch lies. -/
theorem emb10 (t : Fin cfg0.N) (j : Fin 512) (r : Fin 256) :
    ((cfg0.win 10).blk t).view.emb (ix3 0 j r) = ix3 (blockBatch t) j (blockPos t r) := by
  have e := (idxT t).2.2.1
  unfold blockBatch blockPos
  blk_ext [e]

/-- Where the rounded block of the selected branch lies. -/
theorem emb11 (t : Fin cfg0.N) (j : Fin 512) (r : Fin 256) :
    ((cfg0.win 11).blk t).view.emb (ix3 0 j r) = ix3 (blockBatch t) j (blockPos t r) := by
  have e := (idxT t).2.2.2.1
  unfold blockBatch blockPos
  blk_ext [e]

/-- Where the rounded block of the window branch lies. -/
theorem emb12 (t : Fin cfg0.N) (j : Fin 512) (r : Fin 256) :
    ((cfg0.win 12).blk t).view.emb (ix3 0 j r) = ix3 (blockBatch t) j (blockPos t r) := by
  have e := (idxT t).2.2.2.2
  unfold blockBatch blockPos
  blk_ext [e]

/-- The queries the body stores, at an index. -/
theorem pay6_apply (x : Vec Ideal S256x1024 .f32) (w : Vec Ideal S1024x1024 .bf16) (r : Fin 256) (j : Fin 1024) :
    k0_pay6 x w (ix2 r j) = ProjRow.query (fun k => x (ix2 r k)) (fun k => w (ix2 k j)) := by
  pointwise [k0_pay6, k0_pay5, ProjRow.query, ProjRow.entry]

/-- The keys and values of the compressed branch that the body stores row by row, at an index. -/
theorem pay7_apply (x : Vec Ideal S256x1024 .f32) (w : Vec Ideal S1024x512 .bf16) (r : Fin 256) (j : Fin 512) :
    k0_pay7 x w (ix2 r j) = ProjRow.entry (fun k => x (ix2 r k)) (fun k => w (ix2 k j)) := by
  pointwise [k0_pay7, k0_pay5, ProjRow.entry]

/-- The gates the body stores, at an index. -/
theorem pay8_apply (x : Vec Ideal S256x1024 .f32) (w : Vec Ideal S1024x256 .bf16) (r : Fin 256) (j : Fin 256) :
    k0_pay8 x w (ix2 r j) = NsaRow.gate (fun k => x (ix2 r k)) (fun k => w (ix2 k j)) := by
  pointwise [k0_pay8, k0_pay5, NsaRow.gate, ProjRow.entry]

/-- All the keys and values at an index: the product is written weights first. -/
theorem pay9_apply (x : Vec Ideal S256x1024 .f32) (w : Vec Ideal S1536x1024 .bf16) (j : Fin 1536) (r : Fin 256) :
    k0_pay9 x w (ix2 j r) = ProjRow.entry (fun k => x (ix2 r k)) (fun k => w (ix2 j k)) := by
  pointwise! [k0_pay9, k0_pay5, ProjRow.entry]

/-- The compressed branch's keys and values: the first third of the product. -/
theorem pay10_apply (x : Vec Ideal S256x1024 .f32) (w : Vec Ideal S1536x1024 .bf16) (j : Fin 512) (r : Fin 256) :
    k0_pay10 x w (ix3 0 j r) = ProjRow.entry (fun k => x (ix2 r k)) (fun k => w (ix2 ⟨j.val, by omega⟩ k)) := by
  rw [← pay9_apply x w ⟨j.val, by omega⟩ r]
  generalize e : k0_pay9 x w = y
  pointwise [k0_pay10, e]

/-- The selected branch's keys and values: the second third. -/
theorem pay11_apply (x : Vec Ideal S256x1024 .f32) (w : Vec Ideal S1536x1024 .bf16) (j : Fin 512) (r : Fin 256) :
    k0_pay11 x w (ix2 j r) = ProjRow.entry (fun k => x (ix2 r k)) (fun k => w (ix2 ⟨512 + j.val, by omega⟩ k)) := by
  rw [← pay9_apply x w ⟨512 + j.val, by omega⟩ r]
  generalize e : k0_pay9 x w = y
  pointwise [k0_pay11, e]

/-- The window branch's keys and values: the last third. -/
theorem pay12_apply (x : Vec Ideal S256x1024 .f32) (w : Vec Ideal S1536x1024 .bf16) (j : Fin 512) (r : Fin 256) :
    k0_pay12 x w (ix2 j r) = ProjRow.entry (fun k => x (ix2 r k)) (fun k => w (ix2 ⟨1024 + j.val, by omega⟩ k)) := by
  rw [← pay9_apply x w ⟨1024 + j.val, by omega⟩ r]
  generalize e : k0_pay9 x w = y
  pointwise [k0_pay12, e]

/-- A block of keys and values stored under its batch. -/
theorem pay1_apply (y : FVec Ideal S512x256 .f32) (j : Fin 512) (r : Fin 256) : k0_pay1 y (ix3 0 j r) = y (ix2 j r) := by
  pointwise [k0_pay1]

/-- A block of keys and values stored under its batch. -/
theorem pay2_apply (y : FVec Ideal S512x256 .f32) (j : Fin 512) (r : Fin 256) : k0_pay2 y (ix3 0 j r) = y (ix2 j r) := by
  pointwise [k0_pay2]

/-- A rounded block of keys and values stored under its batch. -/
theorem pay3_apply (y : FVec Ideal S512x256 .f32) (j : Fin 512) (r : Fin 256) : k0_pay3 y (ix3 0 j r) = y (ix2 j r) := by
  pointwise [k0_pay3]

/-- A rounded block of keys and values stored under its batch. -/
theorem pay4_apply (y : FVec Ideal S512x256 .f32) (j : Fin 512) (r : Fin 256) : k0_pay4 y (ix3 0 j r) = y (ix2 j r) := by
  pointwise [k0_pay4]

/-- The queries' array after the run. -/
theorem final5 (c : Dev nD) : (dats m 0 c).arrAt 5 cfg0.N = queries m c := by
  refine (dats m 0 c).arrAt_eq_of_covers 5 _ (by decide +kernel) fun t hf y => ?_
  obtain ⟨r, j, rfl⟩ : ∃ (r : Fin 256) (j : Fin 1024), y = ix2 r j := ⟨y 0, y 1, eq_ix2 y⟩
  rw [emb5]
  blk_simp
  rw [after0_5]
  frame_out
  rw [pay6_apply]
  simp only [blk0, blk1]
  rfl

/-- The array of the compressed branch after the run. -/
theorem final6 (c : Dev nD) : (dats m 0 c).arrAt 6 cfg0.N = compressed m c := by
  refine (dats m 0 c).arrAt_eq_of_covers 6 _ (by decide +kernel) fun t hf y => ?_
  obtain ⟨r, j, rfl⟩ : ∃ (r : Fin 256) (j : Fin 512), y = ix2 r j := ⟨y 0, y 1, eq_ix2 y⟩
  rw [emb6]
  blk_simp
  rw [after0_6]
  frame_out
  rw [pay7_apply]
  simp only [blk0, blk2]
  rfl

/-- The gates' array after the run. -/
theorem final7 (c : Dev nD) : (dats m 0 c).arrAt 7 cfg0.N = gates m c := by
  refine (dats m 0 c).arrAt_eq_of_covers 7 _ (by decide +kernel) fun t hf y => ?_
  obtain ⟨r, j, rfl⟩ : ∃ (r : Fin 256) (j : Fin 256), y = ix2 r j := ⟨y 0, y 1, eq_ix2 y⟩
  rw [emb7]
  blk_simp
  rw [after0_7]
  frame_out
  rw [pay8_apply]
  simp only [blk0, blk3]
  show _ = NsaRow.paired (act m c (blockRow t r)) (weight m c) j
  unfold NsaRow.paired
  by_cases h : j.val % 128 < 24
  · simp only [h, ↓reduceDIte]
  · simp only [h, ↓reduceDIte]
    exact NsaRow.gate_zero _

/-- An entry of a block of a branch is that of the branch's array. -/
theorem branch_block (c : Dev nD) (o : Nat) (ho : o ≤ 1024) (t : Fin cfg0.N) (j : Fin 512) (r : Fin 256) :
    ProjRow.entry (fun k => iblk m c 0 t (ix2 r k)) (fun k => iblk m c 4 t (ix2 ⟨o + j.val, by omega⟩ k))
      = branch m c o ho (ix3 (blockBatch t) j (blockPos t r)) := by
  simp only [blk0, blk4, ← rowOf_block]
  rfl

/-- The transposed array of the compressed branch after the run. -/
theorem final8 (c : Dev nD) : (dats m 0 c).arrAt 8 cfg0.N = branch m c 0 (by omega) := by
  refine (dats m 0 c).arrAt_eq_of_covers 8 _ (by decide +kernel) fun t hf y => ?_
  obtain ⟨z, j, r, rfl⟩ : ∃ (z : Fin 1) (j : Fin 512) (r : Fin 256), y = ix3 z j r := ⟨y 0, y 1, y 2, eq_ix3 y⟩
  obtain rfl : z = 0 := Subsingleton.elim _ _
  rw [emb8]
  blk_simp
  rw [after0_8]
  frame_out
  rw [pay10_apply, ← branch_block]
  simp only [Nat.zero_add]

/-- The transposed array of the selected branch after the run. -/
theorem final9 (c : Dev nD) : (dats m 0 c).arrAt 9 cfg0.N = branch m c 512 (by omega) := by
  refine (dats m 0 c).arrAt_eq_of_covers 9 _ (by decide +kernel) fun t hf y => ?_
  obtain ⟨z, j, r, rfl⟩ : ∃ (z : Fin 1) (j : Fin 512) (r : Fin 256), y = ix3 z j r := ⟨y 0, y 1, y 2, eq_ix3 y⟩
  obtain rfl : z = 0 := Subsingleton.elim _ _
  rw [emb9]
  blk_simp
  rw [after0_9]
  frame_out
  rw [pay1_apply]
  rw [k0_pay13]
  frame_out
  rw [pay11_apply, ← branch_block]

/-- The transposed array of the window branch after the run. -/
theorem final10 (c : Dev nD) : (dats m 0 c).arrAt 10 cfg0.N = branch m c 1024 (by omega) := by
  refine (dats m 0 c).arrAt_eq_of_covers 10 _ (by decide +kernel) fun t hf y => ?_
  obtain ⟨z, j, r, rfl⟩ : ∃ (z : Fin 1) (j : Fin 512) (r : Fin 256), y = ix3 z j r := ⟨y 0, y 1, y 2, eq_ix3 y⟩
  obtain rfl : z = 0 := Subsingleton.elim _ _
  rw [emb10]
  blk_simp
  rw [after0_10]
  frame_out
  rw [pay2_apply]
  rw [k0_pay14]
  frame_out
  rw [pay12_apply, ← branch_block]

/-- The rounded array of the selected branch after the run. -/
theorem final11 (c : Dev nD) : (dats m 0 c).arrAt 11 cfg0.N = branch m c 512 (by omega) := by
  refine (dats m 0 c).arrAt_eq_of_covers 11 _ (by decide +kernel) fun t hf y => ?_
  obtain ⟨z, j, r, rfl⟩ : ∃ (z : Fin 1) (j : Fin 512) (r : Fin 256), y = ix3 z j r := ⟨y 0, y 1, y 2, eq_ix3 y⟩
  obtain rfl : z = 0 := Subsingleton.elim _ _
  rw [emb11]
  blk_simp
  rw [after0_11]
  frame_out
  rw [pay3_apply]
  rw [k0_pay13]
  frame_out
  rw [pay11_apply, ← branch_block]

/-- The rounded array of the window branch after the run. -/
theorem final12 (c : Dev nD) : (dats m 0 c).arrAt 12 cfg0.N = branch m c 1024 (by omega) := by
  refine (dats m 0 c).arrAt_eq_of_covers 12 _ (by decide +kernel) fun t hf y => ?_
  obtain ⟨z, j, r, rfl⟩ : ∃ (z : Fin 1) (j : Fin 512) (r : Fin 256), y = ix3 z j r := ⟨y 0, y 1, y 2, eq_ix3 y⟩
  obtain rfl : z = 0 := Subsingleton.elim _ _
  rw [emb12]
  blk_simp
  rw [after0_12]
  frame_out
  rw [pay4_apply]
  rw [k0_pay14]
  frame_out
  rw [pay12_apply, ← branch_block]

end Cert.NsaProjIdeal.Row

end
-- ==== Proof.NsaProjReference.lean ====
/- What the sparse layer's plain projection of the prompt computes at an index. -/
module

public import proofs.«01_k».proof.Proof.NsaRow
public import proofs.«01_k».proof.Proof.Gen.NsaProjReferenceIdeal.Read
public import Idealize.ShloMosaic.Lib.Pointwise

@[expose] public section

set_option maxRecDepth 16384

noncomputable section

open Idealize.ShloMosaic Idealize.ShloMosaic.TcCoe Idealize.SL.Sem

namespace Cert.NsaProjReferenceIdeal.Row

open Cert.NsaProjReferenceIdeal Cert.NsaProjReferenceIdeal.Gen Cert.NsaProjReferenceIdeal.Read

variable (x : FVec Ideal S16384x1024 .f32) (w : FVec Ideal S1x1024x2608 .f32)

/-- The queries at an index. -/
theorem queries_apply (r : Fin 16384) (j : Fin 1024) :
    val_main_v5 (F := Ideal) x w (ix2 r j)
      = ProjRow.query (fun k => x (ix2 r k)) (fun k => w (ix3 0 k ⟨j.val, by omega⟩)) := by
  pointwise [val_main_v5, val_main_v4, val_main_v3, val_main_v2, val_main_cst, val_main_v1, val_main_v0,
    ProjRow.query, ProjRow.entry]

/-- The keys and values of the compressed branch at an index. -/
theorem compressed_apply (r : Fin 16384) (j : Fin 512) :
    val_main_v7 (F := Ideal) x w (ix2 r j)
      = ProjRow.entry (fun k => x (ix2 r k)) (fun k => w (ix3 0 k ⟨1024 + j.val, by omega⟩)) := by
  pointwise [val_main_v7, val_main_v6, val_main_v1, val_main_v0, ProjRow.entry]

/-- The transposed keys and values of the compressed branch at an index. -/
theorem compressedT_apply (b : Fin 8) (j : Fin 512) (s : Fin 2048) :
    val_main_v22 (F := Ideal) x w (ix3 b j s)
      = ProjRow.entry (fun k => x (ix2 ⟨2048 * b.val + s.val, by omega⟩ k)) (fun k => w (ix3 0 k ⟨1024 + (0 + j.val), by omega⟩)) := by
  simp only [Nat.zero_add]
  pointwise! [val_main_v22, val_main_v21, val_main_v7, val_main_v6, val_main_v1, val_main_v0, ProjRow.entry]

/-- The transposed keys and values of the selected branch at an index. -/
theorem selectedT_apply (b : Fin 8) (j : Fin 512) (s : Fin 2048) :
    val_main_v24 (F := Ideal) x w (ix3 b j s)
      = ProjRow.entry (fun k => x (ix2 ⟨2048 * b.val + s.val, by omega⟩ k)) (fun k => w (ix3 0 k ⟨1024 + (512 + j.val), by omega⟩)) := by
  pointwise! [val_main_v24, val_main_v23, val_main_v8, val_main_v6, val_main_v1, val_main_v0, ProjRow.entry]

/-- The transposed keys and values of the window branch at an index. -/
theorem windowT_apply (b : Fin 8) (j : Fin 512) (s : Fin 2048) :
    val_main_v26 (F := Ideal) x w (ix3 b j s)
      = ProjRow.entry (fun k => x (ix2 ⟨2048 * b.val + s.val, by omega⟩ k)) (fun k => w (ix3 0 k ⟨1024 + (1024 + j.val), by omega⟩)) := by
  pointwise! [val_main_v26, val_main_v25, val_main_v9, val_main_v6, val_main_v1, val_main_v0, ProjRow.entry]

/-- The rounded keys and values of the selected branch are the same numbers. -/
theorem selectedR_apply (b : Fin 8) (j : Fin 512) (s : Fin 2048) :
    val_main_v28 (F := Ideal) x w (ix3 b j s) = val_main_v24 (F := Ideal) x w (ix3 b j s) := rfl

/-- The rounded keys and values of the window branch are the same numbers. -/
theorem windowR_apply (b : Fin 8) (j : Fin 512) (s : Fin 2048) :
    val_main_v29 (F := Ideal) x w (ix3 b j s) = val_main_v26 (F := Ideal) x w (ix3 b j s) := rfl

/-- One gate: the quotient of one by one plus the exponential of the negated entry is the sigmoid. -/
theorem gate_apply (r : Fin 16384) (j : Fin 48) :
    val_main_v16 (F := Ideal) x w (ix2 r j)
      = NsaRow.gate (fun k => x (ix2 r k)) (fun k => w (ix3 0 k ⟨2560 + j.val, by omega⟩)) := by
  pointwise [val_main_v16, val_main_v15, val_main_v14, val_main_v13, val_main_v12, val_main_v11, val_main_v10, val_main_cst_0,
    val_main_cst_1, val_main_v1, val_main_v0, NsaRow.gate, ProjRow.entry, Ideal.logistic]

/-- The gates at an index, the lower half of the heads in the first 128 lanes. -/
theorem gates_apply (r : Fin 16384) (l : Fin 256) :
    val_main_v27 (F := Ideal) x w (ix2 r l) = NsaRow.paired (fun k => x (ix2 r k)) (fun k j => w (ix3 0 k j)) l := by
  have g := gate_apply x w r
  unfold NsaRow.paired
  generalize e : val_main_v16 (F := Ideal) x w = y at g
  pointwise [val_main_v27, val_main_v20, val_main_call0_v0, val_main_cst_2, val_main_v19, val_main_v18, val_main_v17, e]
  have h2 : l.val / 128 < 2 := by omega
  by_cases h : l.val % 128 < 24
  · simp only [h, h2, and_self, ↓reduceDIte, g]
    have e2 : l.val % 128 / 8 * 16 + l.val / 128 * 8 + l.val % 128 % 8
        = 16 * (l.val % 128 / 8) + 8 * (l.val / 128) + l.val % 8 := by omega
    simp only [e2]
  · simp only [h, and_false, ↓reduceDIte]
    rfl

end Cert.NsaProjReferenceIdeal.Row

end
-- ==== Proof.NsaProjClaim.lean ====
/- The two programs of the sparse layer's projection of the prompt, the tiled one and the plain one, leave equal results. -/
module

public import proofs.«01_k».proof.Defs
public import proofs.«01_k».proof.Proof.NsaProjValue
public import proofs.«01_k».proof.Proof.NsaProjReference
public import proofs.«01_k».proof.Proof.Gen.NsaProjReferenceIdeal.Run

@[expose] public section

set_option maxRecDepth 16384

noncomputable section

open Idealize.ShloMosaic Idealize.ShloMosaic.TcCoe Idealize.SL.Sem

namespace Cert.Proof

/-- From the same arguments the tiled projection of the prompt and the plain one end with equal queries, compressed keys and
    values, gates, and transposed keys and values of the three branches, two of them rounded besides. -/
theorem nsa_proj : Cert.algebraic_NsaProjIdeal_NsaProjReferenceIdeal := by
  pair_intro
  · run_from Cert.NsaProjIdeal.Value.run_blocks m g
  · run_from Cert.NsaProjReferenceIdeal.Value.run m' g'
    · rw [Cert.NsaProjReferenceIdeal.Read.val_main_v5_eq, Cert.NsaProjIdeal.Row.final5]
      funext i
      obtain ⟨r, j, rfl⟩ : ∃ (r : Fin 16384) (j : Fin 1024), i = ix2 r j := ⟨i 0, i 1, eq_ix2 i⟩
      rw [Cert.NsaProjReferenceIdeal.Row.queries_apply]
      rfl
    · rw [Cert.NsaProjReferenceIdeal.Read.val_main_v7_eq, Cert.NsaProjIdeal.Row.final6]
      funext i
      obtain ⟨r, j, rfl⟩ : ∃ (r : Fin 16384) (j : Fin 512), i = ix2 r j := ⟨i 0, i 1, eq_ix2 i⟩
      rw [Cert.NsaProjReferenceIdeal.Row.compressed_apply]
      rfl
    · rw [Cert.NsaProjIdeal.Row.final7]
      refine (Cert.NsaProjReferenceIdeal.Read.val_main_v27_eq (F := Ideal) _ _).trans ?_
      funext i
      obtain ⟨r, j, rfl⟩ : ∃ (r : Fin 16384) (j : Fin 256), i = ix2 r j := ⟨i 0, i 1, eq_ix2 i⟩
      rw [Cert.NsaProjReferenceIdeal.Row.gates_apply]
      rfl
    · rw [Cert.NsaProjReferenceIdeal.Read.val_main_v22_eq, Cert.NsaProjIdeal.Row.final8]
      funext i
      obtain ⟨b, j, s, rfl⟩ : ∃ (b : Fin 8) (j : Fin 512) (s : Fin 2048), i = ix3 b j s := ⟨i 0, i 1, i 2, eq_ix3 i⟩
      rw [Cert.NsaProjReferenceIdeal.Row.compressedT_apply]
      rfl
    · rw [Cert.NsaProjReferenceIdeal.Read.val_main_v24_eq, Cert.NsaProjIdeal.Row.final9]
      funext i
      obtain ⟨b, j, s, rfl⟩ : ∃ (b : Fin 8) (j : Fin 512) (s : Fin 2048), i = ix3 b j s := ⟨i 0, i 1, i 2, eq_ix3 i⟩
      rw [Cert.NsaProjReferenceIdeal.Row.selectedT_apply]
      rfl
    · rw [Cert.NsaProjReferenceIdeal.Read.val_main_v26_eq, Cert.NsaProjIdeal.Row.final10]
      funext i
      obtain ⟨b, j, s, rfl⟩ : ∃ (b : Fin 8) (j : Fin 512) (s : Fin 2048), i = ix3 b j s := ⟨i 0, i 1, i 2, eq_ix3 i⟩
      rw [Cert.NsaProjReferenceIdeal.Row.windowT_apply]
      rfl
    · rw [Cert.NsaProjReferenceIdeal.Read.val_main_v28_eq, Cert.NsaProjIdeal.Row.final11]
      funext i
      obtain ⟨b, j, s, rfl⟩ : ∃ (b : Fin 8) (j : Fin 512) (s : Fin 2048), i = ix3 b j s := ⟨i 0, i 1, i 2, eq_ix3 i⟩
      rw [Cert.NsaProjReferenceIdeal.Row.selectedR_apply, Cert.NsaProjReferenceIdeal.Row.selectedT_apply]
      rfl
    · rw [Cert.NsaProjReferenceIdeal.Read.val_main_v29_eq, Cert.NsaProjIdeal.Row.final12]
      funext i
      obtain ⟨b, j, s, rfl⟩ : ∃ (b : Fin 8) (j : Fin 512) (s : Fin 2048), i = ix3 b j s := ⟨i 0, i 1, i 2, eq_ix3 i⟩
      rw [Cert.NsaProjReferenceIdeal.Row.windowR_apply, Cert.NsaProjReferenceIdeal.Row.windowT_apply]
      rfl

end Cert.Proof

end
-- ==== Proof.NsaRowsHost.lean ====
/- What the host has prepared when the sparse layer's projection of the sampled rows begins. -/
module

public import proofs.«01_k».proof.Proof.NsaRow
public import proofs.«01_k».proof.Proof.Gen.NsaRowsIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NsaRowsIdeal.Row

open Cert.NsaRowsIdeal Cert.NsaRowsIdeal.Gen

variable (m : (ℓ : Loc nD τ sig) → Buf (Elt Ideal) ℓ)

/-- The activations at an index. -/
def act (c : Dev nD) (r : Fin 32) (k : Fin 1024) : EReal := m ((c : Thread nD τ).loc main_arg0) (ix2 r k)

/-- The weights at an index. -/
def weight (c : Dev nD) (k : Fin 1024) (j : Fin 2608) : EReal := m ((c : Thread nD τ).loc main_arg1) (ix3 0 k j)

/-- The weights that the region finds for the queries. -/
theorem queryWeights (c : Dev nD) (k j : Fin 1024) : V m c main_v4 (ix2 k j) = weight m c k ⟨j.val, by omega⟩ := by
  unfold_abbrev_sides
  rw [List.flatten_cons, List.flatten_cons, List.flatten_cons, List.flatten_nil]
  simp only [List.append_nil, List.cons_append, List.nil_append]
  after_results
  unfold weight
  pointwise

/-- The weights that the region finds for the keys and values. -/
theorem keyValueWeights (c : Dev nD) (k : Fin 1024) (j : Fin 1536) :
    V m c main_v5 (ix2 k j) = weight m c k ⟨1024 + j.val, by omega⟩ := by
  unfold_abbrev_sides
  rw [List.flatten_cons, List.flatten_cons, List.flatten_cons, List.flatten_nil]
  simp only [List.append_nil, List.cons_append, List.nil_append]
  after_results
  unfold weight
  pointwise

/-- The weights that the region finds for the gates: zero past the 48 gates. -/
theorem gateWeights (c : Dev nD) (k : Fin 1024) (l : Fin 128) :
    V m c main_v7 (ix2 k l) = if h : l.val < 48 then weight m c k ⟨2560 + l.val, by omega⟩ else (0 : EReal) := by
  unfold_abbrev_sides
  rw [List.flatten_cons, List.flatten_cons, List.flatten_cons, List.flatten_nil]
  simp only [List.append_nil, List.cons_append, List.nil_append]
  after_results
  pointwise
  simp -implicitDefEqProofs only [StableHlo.TRef.toBuf, StableHlo.TRef.ofBuf, cast_cast, cast_eq]
  pointwise
  by_cases h : l.val < 48
  · simp only [h, ↓reduceDIte]
    rfl
  · rw [dif_neg h, dif_neg h]
    show (((0#32 : BitVec 32).toInt : ℝ) : EReal) = 0
    simp

end Cert.NsaRowsIdeal.Row

end
-- ==== Proof.NsaRowsValue.lean ====
/- What the sparse layer's projection of the sampled rows leaves in its three result arrays. -/
module

public import proofs.«01_k».proof.Proof.NsaRow
public import proofs.«01_k».proof.Proof.NsaRowsHost
public import proofs.«01_k».proof.Proof.Gen.NsaRowsIdeal.Value
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NsaRowsIdeal.Row

open Cert.NsaRowsIdeal Cert.NsaRowsIdeal.Gen

variable (m : (ℓ : Loc nD τ sig) → Buf (Elt Ideal) ℓ)

/-- The queries' array: entry `(r, j)` is row `r`'s query against column `j` of the weights. -/
def queries (c : Dev nD) : Buf (Elt Ideal) ((c : Thread nD τ).loc main_v8_0) := fun (i : S32x1024.Idx) =>
  ProjRow.query (act m c (i 0)) (fun k => weight m c k ⟨(i 1).val, Nat.lt_trans (i 1).isLt (by decide)⟩)

/-- The keys' and values' array: entry `(r, j)` is row `r` against column `1024 + j` of the weights. -/
def keysValues (c : Dev nD) : Buf (Elt Ideal) ((c : Thread nD τ).loc main_v8_1) := fun (i : S32x1536.Idx) =>
  ProjRow.entry (act m c (i 0)) (fun k => weight m c k ⟨1024 + (i 1).val, by have : (i 1).val < 1536 := (i 1).isLt; omega⟩)

/-- The gates' array. -/
def gates (c : Dev nD) : Buf (Elt Ideal) ((c : Thread nD τ).loc main_v8_2) := fun (i : S32x128.Idx) =>
  NsaRow.single (act m c (i 0)) (weight m c) (i 1)

/-- Each window's block is the whole of its array, at the one grid point. -/
theorem idx (t : Fin cfg0.N) : win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]) t

/-- The activations' block. -/
theorem blk0 (c : Dev nD) (t : Fin cfg0.N) (r : Fin 32) (k : Fin 1024) : iblk m c 0 t (ix2 r k) = act m c r k := by
  have e := (idx t).1
  unfold act
  blk_ext! [iblk, V, e]

/-- The queries' weights. -/
theorem blk1 (c : Dev nD) (t : Fin cfg0.N) (k j : Fin 1024) : iblk m c 1 t (ix2 k j) = weight m c k ⟨j.val, by omega⟩ := by
  have e := (idx t).2.1
  have h : iblk m c 1 t (ix2 k j) = V m c main_v4 (ix2 k j) := by blk_ext [iblk, e]
  exact h.trans (queryWeights m c k j)

/-- The keys' and values' weights. -/
theorem blk2 (c : Dev nD) (t : Fin cfg0.N) (k : Fin 1024) (j : Fin 1536) :
    iblk m c 2 t (ix2 k j) = weight m c k ⟨1024 + j.val, by omega⟩ := by
  have e := (idx t).2.2.1
  have h : iblk m c 2 t (ix2 k j) = V m c main_v5 (ix2 k j) := by blk_ext [iblk, e]
  exact h.trans (keyValueWeights m c k j)

/-- The gates' weights: zero past the 48 gates. -/
theorem blk3 (c : Dev nD) (t : Fin cfg0.N) (k : Fin 1024) (l : Fin 128) :
    iblk m c 3 t (ix2 k l) = if h : l.val < 48 then weight m c k ⟨2560 + l.val, by omega⟩ else (0 : EReal) := by
  have e := (idx t).2.2.2.1
  have h : iblk m c 3 t (ix2 k l) = V m c main_v7 (ix2 k l) := by blk_ext [iblk, e]
  exact h.trans (gateWeights m c k l)

/-- Where the queries' block lies. -/
theorem emb4 (t : Fin cfg0.N) (r : Fin 32) (j : Fin 1024) : ((cfg0.win 4).blk t).view.emb (ix2 r j) = ix2 r j := by
  have e := (idx t).2.2.2.2.1
  blk_ext [e]

/-- Where the keys' and values' block lies. -/
theorem emb5 (t : Fin cfg0.N) (r : Fin 32) (j : Fin 1536) : ((cfg0.win 5).blk t).view.emb (ix2 r j) = ix2 r j := by
  have e := (idx t).2.2.2.2.2.1
  blk_ext [e]

/-- Where the gates' block lies. -/
theorem emb6 (t : Fin cfg0.N) (r : Fin 32) (j : Fin 128) : ((cfg0.win 6).blk t).view.emb (ix2 r j) = ix2 r j := by
  have e := (idx t).2.2.2.2.2.2
  blk_ext [e]

/-- The queries the body stores, at an index. -/
theorem pay2_apply (x : Vec Ideal S32x1024 .f32) (w : Vec Ideal S1024x1024 .bf16) (r : Fin 32) (j : Fin 1024) :
    k0_pay2 x w (ix2 r j) = ProjRow.query (fun k => x (ix2 r k)) (fun k => w (ix2 k j)) := by
  pointwise [k0_pay2, k0_pay1, ProjRow.query, ProjRow.entry]

/-- The keys and values the body stores, at an index. -/
theorem pay3_apply (x : Vec Ideal S32x1024 .f32) (w : Vec Ideal S1024x1536 .bf16) (r : Fin 32) (j : Fin 1536) :
    k0_pay3 x w (ix2 r j) = ProjRow.entry (fun k => x (ix2 r k)) (fun k => w (ix2 k j)) := by
  pointwise [k0_pay3, k0_pay1, ProjRow.entry]

/-- The gates the body stores, at an index. -/
theorem pay4_apply (x : Vec Ideal S32x1024 .f32) (w : Vec Ideal S1024x128 .bf16) (r : Fin 32) (j : Fin 128) :
    k0_pay4 x w (ix2 r j) = NsaRow.gate (fun k => x (ix2 r k)) (fun k => w (ix2 k j)) := by
  pointwise [k0_pay4, k0_pay1, NsaRow.gate, ProjRow.entry]

/-- The queries' array after the run. -/
theorem final4 (c : Dev nD) : (dats m 0 c).arrAt 4 cfg0.N = queries m c := by
  refine (dats m 0 c).arrAt_eq_of_covers 4 _ (by decide +kernel) fun t hf y => ?_
  obtain ⟨r, j, rfl⟩ : ∃ (r : Fin 32) (j : Fin 1024), y = ix2 r j := ⟨y 0, y 1, eq_ix2 y⟩
  rw [emb4]
  blk_simp
  rw [after0_4]
  frame_out
  rw [pay2_apply]
  simp only [blk0, blk1]
  rfl

/-- The keys' and values' array after the run. -/
theorem final5 (c : Dev nD) : (dats m 0 c).arrAt 5 cfg0.N = keysValues m c := by
  refine (dats m 0 c).arrAt_eq_of_covers 5 _ (by decide +kernel) fun t hf y => ?_
  obtain ⟨r, j, rfl⟩ : ∃ (r : Fin 32) (j : Fin 1536), y = ix2 r j := ⟨y 0, y 1, eq_ix2 y⟩
  rw [emb5]
  blk_simp
  rw [after0_5]
  frame_out
  rw [pay3_apply]
  simp only [blk0, blk2]
  rfl

/-- The gates' array after the run. -/
theorem final6 (c : Dev nD) : (dats m 0 c).arrAt 6 cfg0.N = gates m c := by
  refine (dats m 0 c).arrAt_eq_of_covers 6 _ (by decide +kernel) fun t hf y => ?_
  obtain ⟨r, j, rfl⟩ : ∃ (r : Fin 32) (j : Fin 128), y = ix2 r j := ⟨y 0, y 1, eq_ix2 y⟩
  rw [emb6]
  blk_simp
  rw [after0_6]
  frame_out
  rw [pay4_apply]
  simp only [blk0, blk3]
  show _ = NsaRow.single (act m c r) (weight m c) j
  unfold NsaRow.single
  by_cases h : j.val < 48
  · simp only [h, ↓reduceDIte]
  · simp only [h, ↓reduceDIte]
    exact NsaRow.gate_zero _

end Cert.NsaRowsIdeal.Row

end
-- ==== Proof.NsaRowsReference.lean ====
/- What the sparse layer's plain projection of the sampled rows computes at an index. -/
module

public import proofs.«01_k».proof.Proof.NsaRow
public import proofs.«01_k».proof.Proof.Gen.NsaRowsReferenceIdeal.Read
public import Idealize.ShloMosaic.Lib.Pointwise

@[expose] public section

set_option maxRecDepth 16384

noncomputable section

open Idealize.ShloMosaic Idealize.ShloMosaic.TcCoe Idealize.SL.Sem

namespace Cert.NsaRowsReferenceIdeal.Row

open Cert.NsaRowsReferenceIdeal Cert.NsaRowsReferenceIdeal.Gen Cert.NsaRowsReferenceIdeal.Read

variable (x : FVec Ideal S32x1024 .f32) (w : FVec Ideal S1x1024x2608 .f32)

/-- The queries at an index. -/
theorem queries_apply (r : Fin 32) (j : Fin 1024) :
    val_main_v13 (F := Ideal) x w (ix2 r j)
      = ProjRow.query (fun k => x (ix2 r k)) (fun k => w (ix3 0 k ⟨j.val, by omega⟩)) := by
  pointwise [val_main_v13, val_main_v12, val_main_v11, val_main_v10, val_main_cst_2, val_main_v1, val_main_v0,
    ProjRow.query, ProjRow.entry]

/-- The keys and values at an index. -/
theorem keysValues_apply (r : Fin 32) (j : Fin 1536) :
    val_main_v14 (F := Ideal) x w (ix2 r j)
      = ProjRow.entry (fun k => x (ix2 r k)) (fun k => w (ix3 0 k ⟨1024 + j.val, by omega⟩)) := by
  pointwise [val_main_v14, val_main_v1, val_main_v0, ProjRow.entry]

/-- One gate: the quotient of one by one plus the exponential of the negated entry is the sigmoid. -/
theorem gate_apply (r : Fin 32) (j : Fin 48) :
    val_main_v8 (F := Ideal) x w (ix2 r j)
      = NsaRow.gate (fun k => x (ix2 r k)) (fun k => w (ix3 0 k ⟨2560 + j.val, by omega⟩)) := by
  pointwise [val_main_v8, val_main_v7, val_main_v6, val_main_v5, val_main_v4, val_main_v3, val_main_v2, val_main_cst,
    val_main_cst_0, val_main_v1, val_main_v0, NsaRow.gate, ProjRow.entry, Ideal.logistic]

/-- The gates at an index, one half past the 48 gates. -/
theorem gates_apply (r : Fin 32) (l : Fin 128) :
    val_main_v9 (F := Ideal) x w (ix2 r l) = NsaRow.single (fun k => x (ix2 r k)) (fun k j => w (ix3 0 k j)) l := by
  have g := gate_apply x w r
  unfold NsaRow.single
  generalize e : val_main_v8 (F := Ideal) x w = y at g
  pointwise [val_main_v9, val_main_call0_v0, val_main_cst_1, e]
  by_cases h : l.val < 48
  · simp only [h, ↓reduceDIte, g]
  · simp only [h, ↓reduceDIte]
    rfl

end Cert.NsaRowsReferenceIdeal.Row

end
-- ==== Proof.NsaRowsClaim.lean ====
/- The two programs of the sparse layer's projection of the sampled rows, the tiled one and the plain one, leave equal results. -/
module

public import proofs.«01_k».proof.Defs
public import proofs.«01_k».proof.Proof.NsaRowsValue
public import proofs.«01_k».proof.Proof.NsaRowsReference
public import proofs.«01_k».proof.Proof.Gen.NsaRowsReferenceIdeal.Run

@[expose] public section

set_option maxRecDepth 16384

noncomputable section

open Idealize.ShloMosaic Idealize.ShloMosaic.TcCoe Idealize.SL.Sem

namespace Cert.Proof

/-- From the same arguments the tiled projection of the sampled rows and the plain one end with equal queries, keys and
    values, and gates. -/
theorem nsa_rows : Cert.algebraic_NsaRowsIdeal_NsaRowsReferenceIdeal := by
  pair_intro
  · run_from Cert.NsaRowsIdeal.Value.run_blocks m g
  · run_from Cert.NsaRowsReferenceIdeal.Value.run m' g'
    · rw [Cert.NsaRowsReferenceIdeal.Read.val_main_v13_eq, Cert.NsaRowsIdeal.Row.final4]
      funext i
      obtain ⟨r, j, rfl⟩ : ∃ (r : Fin 32) (j : Fin 1024), i = ix2 r j := ⟨i 0, i 1, eq_ix2 i⟩
      rw [Cert.NsaRowsReferenceIdeal.Row.queries_apply]
      rfl
    · rw [Cert.NsaRowsReferenceIdeal.Read.val_main_v14_eq, Cert.NsaRowsIdeal.Row.final5]
      funext i
      obtain ⟨r, j, rfl⟩ : ∃ (r : Fin 32) (j : Fin 1536), i = ix2 r j := ⟨i 0, i 1, eq_ix2 i⟩
      rw [Cert.NsaRowsReferenceIdeal.Row.keysValues_apply]
      rfl
    · rw [Cert.NsaRowsIdeal.Row.final6]
      refine (Cert.NsaRowsReferenceIdeal.Read.val_main_v9_eq (F := Ideal) _ _).trans ?_
      funext i
      obtain ⟨r, j, rfl⟩ : ∃ (r : Fin 32) (j : Fin 128), i = ix2 r j := ⟨i 0, i 1, eq_ix2 i⟩
      rw [Cert.NsaRowsReferenceIdeal.Row.gates_apply]
      rfl

end Cert.Proof

end
-- ==== Proof.lean ====
/- The certificate: the attention, the end of a layer and the projections of both layers, each with its frames and its values. The
   modules under Proof/ prove the values; here they are put together with the generated frames. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Tail.Frame
public import proofs.«01_k».proof.Proof.Gen.TailIdeal.Value
public import proofs.«01_k».proof.Proof.Gen.TailReferenceIdeal.Run
public import proofs.«01_k».proof.Proof.Gen.TailReferenceIdeal.Read
public import proofs.«01_k».proof.Proof.Gen.Proj.Frame
public import proofs.«01_k».proof.Proof.Gen.ProjIdeal.Value
public import proofs.«01_k».proof.Proof.Gen.ProjReferenceIdeal.Run
public import proofs.«01_k».proof.Proof.Gen.ProjReferenceIdeal.Read
public import proofs.«01_k».proof.Proof.Gen.Rows.Frame
public import proofs.«01_k».proof.Proof.Gen.RowsIdeal.Value
public import proofs.«01_k».proof.Proof.Gen.RowsReferenceIdeal.Run
public import proofs.«01_k».proof.Proof.Gen.RowsReferenceIdeal.Read
public import proofs.«01_k».proof.Proof.Gen.NsaProj.Frame
public import proofs.«01_k».proof.Proof.Gen.NsaProjIdeal.Value
public import proofs.«01_k».proof.Proof.Gen.NsaProjReferenceIdeal.Run
public import proofs.«01_k».proof.Proof.Gen.NsaProjReferenceIdeal.Read
public import proofs.«01_k».proof.Proof.Gen.NsaRows.Frame
public import proofs.«01_k».proof.Proof.Gen.NsaRowsIdeal.Value
public import proofs.«01_k».proof.Proof.Gen.NsaRowsReferenceIdeal.Run
public import proofs.«01_k».proof.Proof.Gen.NsaRowsReferenceIdeal.Read
public import proofs.«01_k».proof.Proof.AttClaim
public import proofs.«01_k».proof.Proof.TailClaim
public import proofs.«01_k».proof.Proof.ProjClaim
public import proofs.«01_k».proof.Proof.RowsClaim
public import proofs.«01_k».proof.Proof.NsaProjClaim
public import proofs.«01_k».proof.Proof.NsaRowsClaim
public import Idealize.ShloMosaic.Lib.Quiescent
public import Idealize.ShloMosaic.Adequacy
public import Idealize.ShloMosaic.Init

@[expose] public section

noncomputable section

namespace Cert.Proof

open Idealize.ShloMosaic Idealize.SL.Sem

/-- The plain attention runs and leaves its arguments alone; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The plain end of a layer runs and leaves its arguments alone. -/
theorem frame_tail_reference : Cert.quiescent_TailReferenceIdeal := fun m ρ _ =>
  (θ_run Cert.TailReferenceIdeal.defs _ _).mono (fun r h => ⟨fun c => (h c).2, sem_eq_zero_of_no_sems (by decide) r.2⟩)
    (Cert.TailReferenceIdeal.Value.run (F := Ideal) m ρ)

/-- The plain projection of the prompt runs and leaves its arguments alone. -/
theorem frame_proj_reference : Cert.quiescent_ProjReferenceIdeal := fun m ρ _ =>
  (θ_run Cert.ProjReferenceIdeal.defs _ _).mono (fun r h => ⟨fun c => (h c).2.2.2.2, sem_eq_zero_of_no_sems (by decide) r.2⟩)
    (Cert.ProjReferenceIdeal.Value.run (F := Ideal) m ρ)

/-- The plain projection of the sampled rows runs and leaves its arguments alone. -/
theorem frame_rows_reference : Cert.quiescent_RowsReferenceIdeal := fun m ρ _ =>
  (θ_run Cert.RowsReferenceIdeal.defs _ _).mono (fun r h => ⟨fun c => (h c).2.2, sem_eq_zero_of_no_sems (by decide) r.2⟩)
    (Cert.RowsReferenceIdeal.Value.run (F := Ideal) m ρ)

/-- The sparse layer's plain projection of the prompt runs and leaves its arguments alone. -/
theorem frame_nsa_proj_reference : Cert.quiescent_NsaProjReferenceIdeal := fun m ρ _ =>
  (θ_run Cert.NsaProjReferenceIdeal.defs _ _).mono
    (fun r h => ⟨fun c => (h c).2.2.2.2.2.2.2.2, sem_eq_zero_of_no_sems (by decide) r.2⟩)
    (Cert.NsaProjReferenceIdeal.Value.run (F := Ideal) m ρ)

/-- The sparse layer's plain projection of the sampled rows runs and leaves its arguments alone. -/
theorem frame_nsa_rows_reference : Cert.quiescent_NsaRowsReferenceIdeal := fun m ρ _ =>
  (θ_run Cert.NsaRowsReferenceIdeal.defs _ _).mono (fun r h => ⟨fun c => (h c).2.2.2, sem_eq_zero_of_no_sems (by decide) r.2⟩)
    (Cert.NsaRowsReferenceIdeal.Value.run (F := Ideal) m ρ)

/-- The attention's one rewrite: the word for minus the reciprocal of the logarithm of two stands for that number. -/
theorem preserves_kernel : Cert.preserves_Kernel_KernelIdeal :=
  IdealRules.named_const.statement Cert.KernelIdeal.κ "neg_log2_e" .f32 0xBFB8AA3B#32 ((-((Real.log 2)⁻¹) : ℝ) : EReal) rfl

theorem claim : Cert.Claim := ⟨inferInstance, inferInstance, inferInstance, inferInstance, inferInstance, inferInstance,
  inferInstance, inferInstance, inferInstance, inferInstance, inferInstance, inferInstance, inferInstance, inferInstance,
  inferInstance, inferInstance, inferInstance, inferInstance, Cert.Pre_finite_scores.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Tail.Gen.frame m ρ, fun m ρ _ => Cert.TailIdeal.Gen.frame m ρ, frame_tail_reference,
  fun m ρ _ => Cert.Proj.Gen.frame m ρ, fun m ρ _ => Cert.ProjIdeal.Gen.frame m ρ, frame_proj_reference,
  fun m ρ _ => Cert.Rows.Gen.frame m ρ, fun m ρ _ => Cert.RowsIdeal.Gen.frame m ρ, frame_rows_reference,
  fun m ρ _ => Cert.NsaProj.Gen.frame m ρ, fun m ρ _ => Cert.NsaProjIdeal.Gen.frame m ρ, frame_nsa_proj_reference,
  fun m ρ _ => Cert.NsaRows.Gen.frame m ρ, fun m ρ _ => Cert.NsaRowsIdeal.Gen.frame m ρ, frame_nsa_rows_reference,
  preserves_kernel, att, trivial, tail, trivial, proj, trivial, rows, trivial, nsa_proj, trivial, nsa_rows⟩

end Cert.Proof

end
